-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_bonus [hPre_finite_bonus : Cert.Pre_finite_bonus.Facts] (m : (ℓ : Loc Cert.KernelIdeal.nD Cert.KernelIdeal.τ Cert.KernelIdeal.sig) → Buf (Elt Ideal) ℓ) : Prop :=
  ∀ c : Dev Cert.KernelIdeal.nD,
    (Cert.Pre_finite_bonus.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_bonus [hPre_finite_bonus : Cert.Pre_finite_bonus.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_bonus.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_finite_bonus [hKernelIdeal : Cert.KernelIdeal.Facts] [hPre_finite_bonus : Cert.Pre_finite_bonus.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_bonus m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_finite_bonus [hReferenceIdeal : Cert.ReferenceIdeal.Facts] [hPre_finite_bonus : Cert.Pre_finite_bonus.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_bonus m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "scale_log2e" .f32 0x3F38AA3B#32 (((1 / 2) * (Real.log 2)⁻¹ : ℝ) : EReal)
  ∧ IdealRules.named_const.Statement Cert.KernelIdeal.κ "log2e" .f32 0x3FB8AA3B#32 (((Real.log 2)⁻¹ : ℝ) : EReal)
  ∧ IdealRules.named_const.Statement Cert.KernelIdeal.κ "mask" .bf16 0xF14A#16 ⊥

def algebraic_KernelIdeal_ReferenceIdeal_pre_finite_bonus [hKernelIdeal : Cert.KernelIdeal.Facts] [hReferenceIdeal : Cert.ReferenceIdeal.Facts] [hPre_finite_bonus : Cert.Pre_finite_bonus.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_bonus m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v162) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_bonus : Cert.Pre_finite_bonus.Facts),
    quiescent_Kernel (hKernel := hKernel)
    ∧ quiescent_KernelIdeal (hKernelIdeal := hKernelIdeal)
    ∧ quiescent_KernelIdeal_pre_finite_bonus (hKernelIdeal := hKernelIdeal) (hPre_finite_bonus := hPre_finite_bonus)
    ∧ quiescent_ReferenceIdeal (hReferenceIdeal := hReferenceIdeal)
    ∧ quiescent_ReferenceIdeal_pre_finite_bonus (hReferenceIdeal := hReferenceIdeal) (hPre_finite_bonus := hPre_finite_bonus)
    ∧ preserves_Kernel_KernelIdeal
    ∧ algebraic_KernelIdeal_ReferenceIdeal_pre_finite_bonus (hKernelIdeal := hKernelIdeal) (hReferenceIdeal := hReferenceIdeal) (hPre_finite_bonus := hPre_finite_bonus)
-- ==== Pre_finite_bonus.lean ====
abbrev S1x2048x768 : Shape := ⟨3, ![1, 2048, 768]⟩
abbrev S48x768 : Shape := ⟨2, ![48, 768]⟩
abbrev S192x768 : Shape := ⟨2, ![192, 768]⟩
abbrev S768x192 : Shape := ⟨2, ![768, 192]⟩
abbrev S12x4x4 : Shape := ⟨3, ![12, 4, 4]⟩
abbrev S12x16 : Shape := ⟨2, ![12, 16]⟩
abbrev S4x4 : Shape := ⟨2, ![4, 4]⟩
abbrev S_ : Shape := ⟨0, ![]⟩

class Facts : Prop where
  bcast_S_S12x16 : S_.BroadcastsInDim S12x16 (![] : Fin 0 → Fin S12x16.rank)

variable [Facts]

def fn {F : FTy → Type} [FloatOps F] (main_arg0 : FVec F S1x2048x768 .f32) (main_arg1 : FVec F S48x768 .f32) (main_arg2 : FVec F S48x768 .f32) (main_arg3 : FVec F S192x768 .f32) (main_arg4 : FVec F S768x192 .f32) (main_arg5 : FVec F S12x4x4 .f32) (main_arg6 : FVec F S12x16 .f32) (main_arg7 : FVec F S4x4 .f32) : IVec S12x16 1 :=
  let main_v0 : FVec F S12x16 .f32 := Host.absf main_arg6
  let main_cst : FVec F S_ .f32 := constant S_ .f32 0x7F800000#32
  let main_v1 : FVec F S12x16 .f32 := broadcastInDim S12x16 ![] bcast_S_S12x16 main_cst
  let main_v2 : IVec S12x16 1 := cmpf .olt main_v0 main_v1
  main_v2
-- ==== Kernel.lean ====
abbrev S1x2048x768 : Shape := ⟨3, ![1, 2048, 768]⟩
abbrev S48x768 : Shape := ⟨2, ![48, 768]⟩
abbrev S192x768 : Shape := ⟨2, ![192, 768]⟩
abbrev S768x192 : Shape := ⟨2, ![768, 192]⟩
abbrev S12x4x4 : Shape := ⟨3, ![12, 4, 4]⟩
abbrev S12x16 : Shape := ⟨2, ![12, 16]⟩
abbrev S4x4 : Shape := ⟨2, ![4, 4]⟩
abbrev S24x96 : Shape := ⟨2, ![24, 96]⟩
abbrev S24x1 : Shape := ⟨2, ![24, 1]⟩
abbrev S48x24 : Shape := ⟨2, ![48, 24]⟩
abbrev S48x96 : Shape := ⟨2, ![48, 96]⟩
abbrev S48x1 : Shape := ⟨2, ![48, 1]⟩
abbrev S96x48 : Shape := ⟨2, ![96, 48]⟩
abbrev S96x96 : Shape := ⟨2, ![96, 96]⟩
abbrev S96x1 : Shape := ⟨2, ![96, 1]⟩
abbrev S192x96 : Shape := ⟨2, ![192, 96]⟩
abbrev S192x1 : Shape := ⟨2, ![192, 1]⟩
abbrev S4x96 : Shape := ⟨2, ![4, 96]⟩
abbrev S96x4 : Shape := ⟨2, ![96, 4]⟩
abbrev S96x12 : Shape := ⟨2, ![96, 12]⟩
abbrev S16x192 : Shape := ⟨2, ![16, 192]⟩
abbrev S96x192 : Shape := ⟨2, ![96, 192]⟩
abbrev S32x2048 : Shape := ⟨2, ![32, 2048]⟩
abbrev S192x12 : Shape := ⟨2, ![192, 12]⟩
abbrev S2048x768 : Shape := ⟨2, ![2048, 768]⟩
abbrev S48x4 : Shape := ⟨2, ![48, 4]⟩
abbrev S512x2048 : Shape := ⟨2, ![512, 2048]⟩
abbrev S_ : Shape := ⟨0, ![]⟩
abbrev S192x2048 : Shape := ⟨2, ![192, 2048]⟩
abbrev S12x2048 : Shape := ⟨2, ![12, 2048]⟩
abbrev S96x768 : Shape := ⟨2, ![96, 768]⟩
abbrev S96x2048 : Shape := ⟨2, ![96, 2048]⟩
abbrev S24x2048 : Shape := ⟨2, ![24, 2048]⟩
abbrev S48x2048 : Shape := ⟨2, ![48, 2048]⟩
abbrev S96x16 : Shape := ⟨2, ![96, 16]⟩
abbrev S1x2048 : Shape := ⟨2, ![1, 2048]⟩
abbrev S16x2048 : Shape := ⟨2, ![16, 2048]⟩
abbrev S17x2048 : Shape := ⟨2, ![17, 2048]⟩
abbrev S32x512 : Shape := ⟨2, ![32, 512]⟩
abbrev S17x512 : Shape := ⟨2, ![17, 512]⟩
abbrev S512x512 : Shape := ⟨2, ![512, 512]⟩
abbrev S16x512 : Shape := ⟨2, ![16, 512]⟩
abbrev S1x512 : Shape := ⟨2, ![1, 512]⟩
abbrev S32x1024 : Shape := ⟨2, ![32, 1024]⟩
abbrev S1024x2048 : Shape := ⟨2, ![1024, 2048]⟩
abbrev S17x1024 : Shape := ⟨2, ![17, 1024]⟩
abbrev S1024x512 : Shape := ⟨2, ![1024, 512]⟩
abbrev S32x1536 : Shape := ⟨2, ![32, 1536]⟩
abbrev S1536x2048 : Shape := ⟨2, ![1536, 2048]⟩
abbrev S17x1536 : Shape := ⟨2, ![17, 1536]⟩
abbrev S1536x512 : Shape := ⟨2, ![1536, 512]⟩

abbrev nBuf : Space → Nat
  | .hbm => 44
  | .vmem => 33
  | .smem => 0
  | _ => 0

abbrev bufTy : (tb : Table) → Fin (tcTables nBuf tb) → BufTy
  | .hbm, ⟨0, _⟩ => ⟨S1x2048x768, .f32⟩
  | .hbm, ⟨1, _⟩ => ⟨S48x768, .f32⟩
  | .hbm, ⟨2, _⟩ => ⟨S48x768, .f32⟩
  | .hbm, ⟨3, _⟩ => ⟨S192x768, .f32⟩
  | .hbm, ⟨4, _⟩ => ⟨S768x192, .f32⟩
  | .hbm, ⟨5, _⟩ => ⟨S12x4x4, .f32⟩
  | .hbm, ⟨6, _⟩ => ⟨S12x16, .f32⟩
  | .hbm, ⟨7, _⟩ => ⟨S4x4, .f32⟩
  | .hbm, ⟨8, _⟩ => ⟨S24x96, .f32⟩
  | .hbm, ⟨9, _⟩ => ⟨S24x1, .f32⟩
  | .hbm, ⟨10, _⟩ => ⟨S48x24, .f32⟩
  | .hbm, ⟨11, _⟩ => ⟨S48x96, .f32⟩
  | .hbm, ⟨12, _⟩ => ⟨S48x1, .f32⟩
  | .hbm, ⟨13, _⟩ => ⟨S96x48, .f32⟩
  | .hbm, ⟨14, _⟩ => ⟨S96x96, .f32⟩
  | .hbm, ⟨15, _⟩ => ⟨S96x1, .f32⟩
  | .hbm, ⟨16, _⟩ => ⟨S192x96, .f32⟩
  | .hbm, ⟨17, _⟩ => ⟨S192x96, .f32⟩
  | .hbm, ⟨18, _⟩ => ⟨S192x1, .f32⟩
  | .hbm, ⟨19, _⟩ => ⟨S96x48, .f32⟩
  | .hbm, ⟨20, _⟩ => ⟨S4x96, .f32⟩
  | .hbm, ⟨21, _⟩ => ⟨S96x4, .f32⟩
  | .hbm, ⟨22, _⟩ => ⟨S96x12, .f32⟩
  | .hbm, ⟨23, _⟩ => ⟨S16x192, .f32⟩
  | .hbm, ⟨24, _⟩ => ⟨S96x192, .f32⟩
  | .hbm, ⟨25, _⟩ => ⟨S96x96, .f32⟩
  | .hbm, ⟨26, _⟩ => ⟨S96x1, .f32⟩
  | .hbm, ⟨27, _⟩ => ⟨S32x2048, .bf16⟩
  | .hbm, ⟨28, _⟩ => ⟨S192x12, .f32⟩
  | .hbm, ⟨29, _⟩ => ⟨S2048x768, .f32⟩
  | .hbm, ⟨30, _⟩ => ⟨S48x4, .f32⟩
  | .hbm, ⟨31, _⟩ => ⟨S512x2048, .i32⟩
  | .hbm, ⟨32, _⟩ => ⟨S512x2048, .i32⟩
  | .hbm, ⟨33, _⟩ => ⟨S_, .i32⟩
  | .hbm, ⟨34, _⟩ => ⟨S512x2048, .i32⟩
  | .hbm, ⟨35, _⟩ => ⟨S512x2048, .i32⟩
  | .hbm, ⟨36, _⟩ => ⟨S512x2048, .i1⟩
  | .hbm, ⟨37, _⟩ => ⟨S_, .f32⟩
  | .hbm, ⟨38, _⟩ => ⟨S_, .f32⟩
  | .hbm, ⟨39, _⟩ => ⟨S512x2048, .f32⟩
  | .hbm, ⟨40, _⟩ => ⟨S512x2048, .f32⟩
  | .hbm, ⟨41, _⟩ => ⟨S512x2048, .f32⟩
  | .hbm, ⟨42, _⟩ => ⟨S512x2048, .bf16⟩
  | .hbm, ⟨43, _⟩ => ⟨S1x2048x768, .f32⟩
  | .local _ .vmem, ⟨0, _⟩ => ⟨S2048x768, .f32⟩
  | .local _ .vmem, ⟨1, _⟩ => ⟨S48x768, .f32⟩
  | .local _ .vmem, ⟨2, _⟩ => ⟨S48x768, .f32⟩
  | .local _ .vmem, ⟨3, _⟩ => ⟨S192x768, .f32⟩
  | .local _ .vmem, ⟨4, _⟩ => ⟨S48x4, .f32⟩
  | .local _ .vmem, ⟨5, _⟩ => ⟨S4x4, .f32⟩
  | .local _ .vmem, ⟨6, _⟩ => ⟨S12x16, .f32⟩
  | .local _ .vmem, ⟨7, _⟩ => ⟨S96x48, .f32⟩
  | .local _ .vmem, ⟨8, _⟩ => ⟨S4x96, .f32⟩
  | .local _ .vmem, ⟨9, _⟩ => ⟨S96x4, .f32⟩
  | .local _ .vmem, ⟨10, _⟩ => ⟨S96x12, .f32⟩
  | .local _ .vmem, ⟨11, _⟩ => ⟨S16x192, .f32⟩
  | .local _ .vmem, ⟨12, _⟩ => ⟨S96x192, .f32⟩
  | .local _ .vmem, ⟨13, _⟩ => ⟨S96x96, .f32⟩
  | .local _ .vmem, ⟨14, _⟩ => ⟨S96x1, .f32⟩
  | .local _ .vmem, ⟨15, _⟩ => ⟨S24x96, .f32⟩
  | .local _ .vmem, ⟨16, _⟩ => ⟨S24x1, .f32⟩
  | .local _ .vmem, ⟨17, _⟩ => ⟨S48x24, .f32⟩
  | .local _ .vmem, ⟨18, _⟩ => ⟨S48x96, .f32⟩
  | .local _ .vmem, ⟨19, _⟩ => ⟨S48x1, .f32⟩
  | .local _ .vmem, ⟨20, _⟩ => ⟨S96x48, .f32⟩
  | .local _ .vmem, ⟨21, _⟩ => ⟨S96x96, .f32⟩
  | .local _ .vmem, ⟨22, _⟩ => ⟨S96x1, .f32⟩
  | .local _ .vmem, ⟨23, _⟩ => ⟨S192x96, .f32⟩
  | .local _ .vmem, ⟨24, _⟩ => ⟨S192x96, .f32⟩
  | .local _ .vmem, ⟨25, _⟩ => ⟨S192x1, .f32⟩
  | .local _ .vmem, ⟨26, _⟩ => ⟨S512x2048, .bf16⟩
  | .local _ .vmem, ⟨27, _⟩ => ⟨S32x2048, .bf16⟩
  | .local _ .vmem, ⟨28, _⟩ => ⟨S192x12, .f32⟩
  | .local _ .vmem, ⟨29, _⟩ => ⟨S768x192, .f32⟩
  | .local _ .vmem, ⟨30, _⟩ => ⟨S1x2048x768, .f32⟩
  | .local _ .vmem, ⟨31, _⟩ => ⟨S192x2048, .f32⟩
  | .local _ .vmem, ⟨32, _⟩ => ⟨S12x2048, .f32⟩
  | _, _ => ⟨S1x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_cst_0 : Ref sig .tc := ⟨.hbm, 9, rfl⟩
abbrev main_cst_1 : Ref sig .tc := ⟨.hbm, 10, rfl⟩
abbrev main_cst_2 : Ref sig .tc := ⟨.hbm, 11, rfl⟩
abbrev main_cst_3 : Ref sig .tc := ⟨.hbm, 12, rfl⟩
abbrev main_cst_4 : Ref sig .tc := ⟨.hbm, 13, rfl⟩
abbrev main_cst_5 : Ref sig .tc := ⟨.hbm, 14, rfl⟩
abbrev main_cst_6 : Ref sig .tc := ⟨.hbm, 15, rfl⟩
abbrev main_cst_7 : Ref sig .tc := ⟨.hbm, 16, rfl⟩
abbrev main_cst_8 : Ref sig .tc := ⟨.hbm, 17, rfl⟩
abbrev main_cst_9 : Ref sig .tc := ⟨.hbm, 18, rfl⟩
abbrev main_cst_10 : Ref sig .tc := ⟨.hbm, 19, rfl⟩
abbrev main_cst_11 : Ref sig .tc := ⟨.hbm, 20, rfl⟩
abbrev main_cst_12 : Ref sig .tc := ⟨.hbm, 21, rfl⟩
abbrev main_cst_13 : Ref sig .tc := ⟨.hbm, 22, rfl⟩
abbrev main_cst_14 : Ref sig .tc := ⟨.hbm, 23, rfl⟩
abbrev main_cst_15 : Ref sig .tc := ⟨.hbm, 24, rfl⟩
abbrev main_cst_16 : Ref sig .tc := ⟨.hbm, 25, rfl⟩
abbrev main_cst_17 : Ref sig .tc := ⟨.hbm, 26, rfl⟩
abbrev main_cst_18 : Ref sig .tc := ⟨.hbm, 27, rfl⟩
abbrev main_cst_19 : Ref sig .tc := ⟨.hbm, 28, rfl⟩
abbrev main_v0 : Ref sig .tc := ⟨.hbm, 29, rfl⟩
abbrev main_v1 : Ref sig .tc := ⟨.hbm, 30, rfl⟩
abbrev main_v2 : Ref sig .tc := ⟨.hbm, 31, rfl⟩
abbrev main_v3 : Ref sig .tc := ⟨.hbm, 32, rfl⟩
abbrev main_c : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_cst_20 : Ref sig .tc := ⟨.hbm, 37, rfl⟩
abbrev main_cst_21 : Ref sig .tc := ⟨.hbm, 38, rfl⟩
abbrev main_call0_v0 : Ref sig .tc := ⟨.hbm, 39, rfl⟩
abbrev main_call0_v1 : Ref sig .tc := ⟨.hbm, 40, rfl⟩
abbrev main_v7 : Ref sig .tc := ⟨.hbm, 41, rfl⟩
abbrev main_v8 : Ref sig .tc := ⟨.hbm, 42, rfl⟩
abbrev main_v9 : Ref sig .tc := ⟨.hbm, 43, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_stg22_0 : Ref sig .tc := ⟨.vmem, 22, rfl⟩
abbrev cc0_stg23_0 : Ref sig .tc := ⟨.vmem, 23, rfl⟩
abbrev cc0_stg24_0 : Ref sig .tc := ⟨.vmem, 24, rfl⟩
abbrev cc0_stg25_0 : Ref sig .tc := ⟨.vmem, 25, rfl⟩
abbrev cc0_stg26_0 : Ref sig .tc := ⟨.vmem, 26, rfl⟩
abbrev cc0_stg27_0 : Ref sig .tc := ⟨.vmem, 27, rfl⟩
abbrev cc0_stg28_0 : Ref sig .tc := ⟨.vmem, 28, rfl⟩
abbrev cc0_stg29_0 : Ref sig .tc := ⟨.vmem, 29, rfl⟩
abbrev cc0_stg30_0 : Ref sig .tc := ⟨.vmem, 30, rfl⟩
abbrev cc0_scratch0 : Ref sig .tc := ⟨.vmem, 31, rfl⟩
abbrev cc0_scratch1 : Ref sig .tc := ⟨.vmem, 32, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21
abbrev cc0_sem22_0 : DmaSem sig := 22
abbrev cc0_sem23_0 : DmaSem sig := 23
abbrev cc0_sem24_0 : DmaSem sig := 24
abbrev cc0_sem25_0 : DmaSem sig := 25
abbrev cc0_sem26_0 : DmaSem sig := 26
abbrev cc0_sem27_0 : DmaSem sig := 27
abbrev cc0_sem28_0 : DmaSem sig := 28
abbrev cc0_sem29_0 : DmaSem sig := 29
abbrev cc0_sem30_0 : DmaSem sig := 30

abbrev nD : Nat := 1
abbrev τ : Topo := Topo.v7x

variable {F : FTy → Type} [FloatOps F]

abbrev grid0 : Pipeline.Grid := .none

abbrev stage0_0 : Fin 1 → Memref sig .tc .vmem S2048x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S48x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S48x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S192x768 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S48x4 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4x4 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S12x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S96x48 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S4x96 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S96x4 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S96x12 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S16x192 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S96x192 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S96x96 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S96x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S24x96 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S24x1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S48x24 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S48x96 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S48x1 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S96x48 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S96x96 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))

abbrev stage0_22 : Fin 1 → Memref sig .tc .vmem S96x1 .f32 := fun | 0 => Memref.whole cc0_stg22_0 | ⟨_ + 1, h⟩ => absurd h (Nat.not_lt.2 (Nat.le_add_left _ _))
abbrev sem0_22 : Fin 1 → DmaSem sig := fun | 0 => cc0_sem22_0 | ⟨_ + 1, h⟩ => absurd h (Nat.not_lt.2 (Nat.le_add_left _ _))

abbrev stage0_23 : Fin 1 → Memref sig .tc .vmem S192x96 .f32 := fun | 0 => Memref.whole cc0_stg23_0 | ⟨_ + 1, h⟩ => absurd h (Nat.not_lt.2 (Nat.le_add_left _ _))
abbrev sem0_23 : Fin 1 → DmaSem sig := fun | 0 => cc0_sem23_0 | ⟨_ + 1, h⟩ => absurd h (Nat.not_lt.2 (Nat.le_add_left _ _))

abbrev stage0_24 : Fin 1 → Memref sig .tc .vmem S192x96 .f32 := fun | 0 => Memref.whole cc0_stg24_0 | ⟨_ + 1, h⟩ => absurd h (Nat.not_lt.2 (Nat.le_add_left _ _))
abbrev sem0_24 : Fin 1 → DmaSem sig := fun | 0 => cc0_sem24_0 | ⟨_ + 1, h⟩ => absurd h (Nat.not_lt.2 (Nat.le_add_left _ _))

abbrev stage0_25 : Fin 1 → Memref sig .tc .vmem S192x1 .f32 := fun | 0 => Memref.whole cc0_stg25_0 | ⟨_ + 1, h⟩ => absurd h (Nat.not_lt.2 (Nat.le_add_left _ _))
abbrev sem0_25 : Fin 1 → DmaSem sig := fun | 0 => cc0_sem25_0 | ⟨_ + 1, h⟩ => absurd h (Nat.not_lt.2 (Nat.le_add_left _ _))

abbrev stage0_26 : Fin 1 → Memref sig .tc .vmem S512x2048 .bf16 := fun | 0 => Memref.whole cc0_stg26_0 | ⟨_ + 1, h⟩ => absurd h (Nat.not_lt.2 (Nat.le_add_left _ _))
abbrev sem0_26 : Fin 1 → DmaSem sig := fun | 0 => cc0_sem26_0 | ⟨_ + 1, h⟩ => absurd h (Nat.not_lt.2 (Nat.le_add_left _ _))

abbrev stage0_27 : Fin 1 → Memref sig .tc .vmem S32x2048 .bf16 := fun | 0 => Memref.whole cc0_stg27_0 | ⟨_ + 1, h⟩ => absurd h (Nat.not_lt.2 (Nat.le_add_left _ _))
abbrev sem0_27 : Fin 1 → DmaSem sig := fun | 0 => cc0_sem27_0 | ⟨_ + 1, h⟩ => absurd h (Nat.not_lt.2 (Nat.le_add_left _ _))

abbrev stage0_28 : Fin 1 → Memref sig .tc .vmem S192x12 .f32 := fun | 0 => Memref.whole cc0_stg28_0 | ⟨_ + 1, h⟩ => absurd h (Nat.not_lt.2 (Nat.le_add_left _ _))
abbrev sem0_28 : Fin 1 → DmaSem sig := fun | 0 => cc0_sem28_0 | ⟨_ + 1, h⟩ => absurd h (Nat.not_lt.2 (Nat.le_add_left _ _))

abbrev stage0_29 : Fin 1 → Memref sig .tc .vmem S768x192 .f32 := fun | 0 => Memref.whole cc0_stg29_0 | ⟨_ + 1, h⟩ => absurd h (Nat.not_lt.2 (Nat.le_add_left _ _))
abbrev sem0_29 : Fin 1 → DmaSem sig := fun | 0 => cc0_sem29_0 | ⟨_ + 1, h⟩ => absurd h (Nat.not_lt.2 (Nat.le_add_left _ _))

abbrev stage0_30 : Fin 1 → Memref sig .tc .vmem S1x2048x768 .f32 := fun | 0 => Memref.whole cc0_stg30_0 | ⟨_ + 1, h⟩ => absurd h (Nat.not_lt.2 (Nat.le_add_left _ _))
abbrev sem0_30 : Fin 1 → DmaSem sig := fun | 0 => cc0_sem30_0 | ⟨_ + 1, h⟩ => absurd h (Nat.not_lt.2 (Nat.le_add_left _ _))
-- ==== KernelIdeal.lean ====
variable {F : FTy → Type} [FloatOps F] [Named F]
def κ : String → Option EReal := fun
  | "log2e" => some (((Real.log 2)⁻¹ : ℝ) : EReal)
  | "mask" => some ⊥
  | "scale_log2e" => some (((1 / 2) * (Real.log 2)⁻¹ : ℝ) : EReal)
  | _ => none
-- ==== ReferenceIdeal.lean ====
abbrev S1x2048x768 : Shape := ⟨3, ![1, 2048, 768]⟩
abbrev S48x768 : Shape := ⟨2, ![48, 768]⟩
abbrev S192x768 : Shape := ⟨2, ![192, 768]⟩
abbrev S768x192 : Shape := ⟨2, ![768, 192]⟩
abbrev S12x4x4 : Shape := ⟨3, ![12, 4, 4]⟩
abbrev S12x16 : Shape := ⟨2, ![12, 16]⟩
abbrev S4x4 : Shape := ⟨2, ![4, 4]⟩
abbrev S768x48 : Shape := ⟨2, ![768, 48]⟩
abbrev S1x2048x48 : Shape := ⟨3, ![1, 2048, 48]⟩
abbrev S1x2048x12x4 : Shape := ⟨4, ![1, 2048, 12, 4]⟩
abbrev S1x2048x192 : Shape := ⟨3, ![1, 2048, 192]⟩
abbrev S1x2048x12x16 : Shape := ⟨4, ![1, 2048, 12, 16]⟩
abbrev S_ : Shape := ⟨0, ![]⟩
abbrev S1x2048x12 : Shape := ⟨3, ![1, 2048, 12]⟩
abbrev S1x2048x12x1 : Shape := ⟨4, ![1, 2048, 12, 1]⟩
abbrev S12x4x1x2048 : Shape := ⟨4, ![12, 4, 1, 2048]⟩
abbrev S1x12x2048x2048 : Shape := ⟨4, ![1, 12, 2048, 2048]⟩
abbrev S16 : Shape := ⟨1, ![16]⟩
abbrev S1x1x1x16 : Shape := ⟨4, ![1, 1, 1, 16]⟩
abbrev S1x1x12x16 : Shape := ⟨4, ![1, 1, 12, 16]⟩
abbrev S1x12x2048 : Shape := ⟨3, ![1, 12, 2048]⟩
abbrev S1x12x1x2048 : Shape := ⟨4, ![1, 12, 1, 2048]⟩
abbrev S2048x2048 : Shape := ⟨2, ![2048, 2048]⟩
abbrev S1x1x2048x2048 : Shape := ⟨4, ![1, 1, 2048, 2048]⟩
abbrev S1x12x2048x1 : Shape := ⟨4, ![1, 12, 2048, 1]⟩
abbrev S1x12x2048x16 : Shape := ⟨4, ![1, 12, 2048, 16]⟩
abbrev S12x2048x2048 : Shape := ⟨3, ![12, 2048, 2048]⟩
abbrev S12x2048x16 : Shape := ⟨3, ![12, 2048, 16]⟩

abbrev nBuf : Space → Nat
  | .hbm => 224
  | .vmem => 0
  | .smem => 0
  | _ => 0

abbrev hbmTy0_0 (i : Nat) : BufTy := match i % 128 with
  | 0 => ⟨S1x2048x768, .f32⟩
  | 1 => ⟨S48x768, .f32⟩
  | 2 => ⟨S48x768, .f32⟩
  | 3 => ⟨S192x768, .f32⟩
  | 4 => ⟨S768x192, .f32⟩
  | 5 => ⟨S12x4x4, .f32⟩
  | 6 => ⟨S12x16, .f32⟩
  | 7 => ⟨S4x4, .f32⟩
  | 8 => ⟨S768x48, .f32⟩
  | 9 => ⟨S1x2048x48, .f32⟩
  | 10 => ⟨S1x2048x12x4, .f32⟩
  | 11 => ⟨S768x48, .f32⟩
  | 12 => ⟨S1x2048x48, .f32⟩
  | 13 => ⟨S1x2048x12x4, .f32⟩
  | 14 => ⟨S768x192, .f32⟩
  | 15 => ⟨S1x2048x192, .f32⟩
  | 16 => ⟨S1x2048x12x16, .f32⟩
  | 17 => ⟨S1x2048x12x4, .f32⟩
  | 18 => ⟨S_, .f32⟩
  | 19 => ⟨S1x2048x12, .f32⟩
  | 20 => ⟨S1x2048x12x1, .f32⟩
  | 21 => ⟨S1x2048x12x1, .f32⟩
  | 22 => ⟨S_, .f32⟩
  | 23 => ⟨S1x2048x12x1, .f32⟩
  | 24 => ⟨S1x2048x12x1, .f32⟩
  | 25 => ⟨S1x2048x12x4, .f32⟩
  | 26 => ⟨S1x2048x12x4, .f32⟩
  | 27 => ⟨S1x2048x12x4, .f32⟩
  | 28 => ⟨S_, .f32⟩
  | 29 => ⟨S1x2048x12, .f32⟩
  | 30 => ⟨S1x2048x12x1, .f32⟩
  | 31 => ⟨S1x2048x12x1, .f32⟩
  | 32 => ⟨S_, .f32⟩
  | 33 => ⟨S1x2048x12x1, .f32⟩
  | 34 => ⟨S1x2048x12x1, .f32⟩
  | 35 => ⟨S1x2048x12x4, .f32⟩
  | 36 => ⟨S1x2048x12x4, .f32⟩
  | 37 => ⟨S12x4x1x2048, .f32⟩
  | 38 => ⟨S1x2048x12x4, .f32⟩
  | 39 => ⟨S1x2048x12x4, .f32⟩
  | 40 => ⟨S_, .f32⟩
  | 41 => ⟨S1x2048x12, .f32⟩
  | 42 => ⟨S1x2048x12x1, .f32⟩
  | 43 => ⟨S1x2048x12x1, .f32⟩
  | 44 => ⟨S_, .f32⟩
  | 45 => ⟨S1x2048x12x1, .f32⟩
  | 46 => ⟨S1x2048x12x1, .f32⟩
  | 47 => ⟨S1x2048x12x4, .f32⟩
  | 48 => ⟨S1x2048x12x4, .f32⟩
  | 49 => ⟨S1x12x2048x2048, .f32⟩
  | 50 => ⟨S_, .f32⟩
  | 51 => ⟨S1x12x2048x2048, .f32⟩
  | 52 => ⟨S1x12x2048x2048, .f32⟩
  | 53 => ⟨S1x2048x12x4, .f32⟩
  | 54 => ⟨S_, .f32⟩
  | 55 => ⟨S1x2048x12x4, .f32⟩
  | 56 => ⟨S1x2048x12x4, .f32⟩
  | 57 => ⟨S1x2048x12x4, .f32⟩
  | 58 => ⟨S1x2048x12x4, .f32⟩
  | 59 => ⟨S_, .f32⟩
  | 60 => ⟨S1x2048x12x4, .f32⟩
  | 61 => ⟨S1x2048x12x4, .f32⟩
  | 62 => ⟨S_, .f32⟩
  | 63 => ⟨S1x2048x12x4, .f32⟩
  | 64 => ⟨S1x2048x12x4, .f32⟩
  | 65 => ⟨S_, .f32⟩
  | 66 => ⟨S1x2048x12x16, .f32⟩
  | 67 => ⟨S1x2048x12x1, .f32⟩
  | 68 => ⟨S1x2048x12, .f32⟩
  | 69 => ⟨S1x2048x12x1, .f32⟩
  | 70 => ⟨S16, .i32⟩
  | 71 => ⟨S_, .i32⟩
  | 72 => ⟨S16, .i32⟩
  | 73 => ⟨S16, .i32⟩
  | 74 => ⟨S_, .i32⟩
  | 75 => ⟨S16, .i32⟩
  | 76 => ⟨S16, .i32⟩
  | 77 => ⟨S16, .f32⟩
  | 78 => ⟨S1x1x1x16, .f32⟩
  | 79 => ⟨S1x2048x12x16, .f32⟩
  | 80 => ⟨S1x2048x12x16, .f32⟩
  | 81 => ⟨S1x2048x12x16, .f32⟩
  | 82 => ⟨S_, .f32⟩
  | 83 => ⟨S1x2048x12x1, .f32⟩
  | 84 => ⟨S1x2048x12x1, .f32⟩
  | 85 => ⟨S_, .f32⟩
  | 86 => ⟨S16, .f32⟩
  | 87 => ⟨S16, .f32⟩
  | 88 => ⟨S1x1x1x16, .f32⟩
  | 89 => ⟨S1x2048x12x16, .f32⟩
  | 90 => ⟨S1x2048x12x16, .f32⟩
  | 91 => ⟨S1x2048x12x16, .f32⟩
  | 92 => ⟨S1x2048x12x16, .f32⟩
  | 93 => ⟨S1x2048x12x16, .f32⟩
  | 94 => ⟨S1x2048x12x1, .f32⟩
  | 95 => ⟨S1x2048x12, .f32⟩
  | 96 => ⟨S1x2048x12x1, .f32⟩
  | 97 => ⟨S16, .i32⟩
  | 98 => ⟨S_, .i32⟩
  | 99 => ⟨S16, .i32⟩
  | 100 => ⟨S16, .i32⟩
  | 101 => ⟨S_, .i32⟩
  | 102 => ⟨S16, .i32⟩
  | 103 => ⟨S16, .i32⟩
  | 104 => ⟨S16, .f32⟩
  | 105 => ⟨S1x1x1x16, .f32⟩
  | 106 => ⟨S1x2048x12x16, .f32⟩
  | 107 => ⟨S1x2048x12x16, .f32⟩
  | 108 => ⟨S1x2048x12x16, .f32⟩
  | 109 => ⟨S_, .f32⟩
  | 110 => ⟨S1x2048x12x1, .f32⟩
  | 111 => ⟨S1x2048x12x1, .f32⟩
  | 112 => ⟨S_, .f32⟩
  | 113 => ⟨S16, .f32⟩
  | 114 => ⟨S16, .f32⟩
  | 115 => ⟨S1x1x1x16, .f32⟩
  | 116 => ⟨S1x2048x12x16, .f32⟩
  | 117 => ⟨S1x2048x12x16, .f32⟩
  | 118 => ⟨S1x2048x12x16, .f32⟩
  | 119 => ⟨S1x2048x12x16, .f32⟩
  | 120 => ⟨S1x2048x12x16, .f32⟩
  | 121 => ⟨S1x2048x12x1, .f32⟩
  | 122 => ⟨S1x2048x12, .f32⟩
  | 123 => ⟨S1x2048x12x1, .f32⟩
  | 124 => ⟨S16, .i32⟩
  | 125 => ⟨S_, .i32⟩
  | 126 => ⟨S16, .i32⟩
  | 127 => ⟨S16, .i32⟩
  | _ => ⟨S1x2048x768, .f32⟩

abbrev hbmTy0_1 (i : Nat) : BufTy := match i % 128 with
  | 0 => ⟨S_, .i32⟩
  | 1 => ⟨S16, .i32⟩
  | 2 => ⟨S16, .i32⟩
  | 3 => ⟨S16, .f32⟩
  | 4 => ⟨S1x1x1x16, .f32⟩
  | 5 => ⟨S1x2048x12x16, .f32⟩
  | 6 => ⟨S1x2048x12x16, .f32⟩
  | 7 => ⟨S1x2048x12x16, .f32⟩
  | 8 => ⟨S_, .f32⟩
  | 9 => ⟨S1x2048x12x1, .f32⟩
  | 10 => ⟨S1x2048x12x1, .f32⟩
  | 11 => ⟨S_, .f32⟩
  | 12 => ⟨S16, .f32⟩
  | 13 => ⟨S16, .f32⟩
  | 14 => ⟨S1x1x1x16, .f32⟩
  | 15 => ⟨S1x2048x12x16, .f32⟩
  | 16 => ⟨S1x2048x12x16, .f32⟩
  | 17 => ⟨S1x2048x12x16, .f32⟩
  | 18 => ⟨S1x2048x12x16, .f32⟩
  | 19 => ⟨S1x2048x12x16, .f32⟩
  | 20 => ⟨S1x2048x12x1, .f32⟩
  | 21 => ⟨S1x2048x12, .f32⟩
  | 22 => ⟨S1x2048x12x1, .f32⟩
  | 23 => ⟨S16, .i32⟩
  | 24 => ⟨S_, .i32⟩
  | 25 => ⟨S16, .i32⟩
  | 26 => ⟨S16, .i32⟩
  | 27 => ⟨S_, .i32⟩
  | 28 => ⟨S16, .i32⟩
  | 29 => ⟨S16, .i32⟩
  | 30 => ⟨S16, .f32⟩
  | 31 => ⟨S1x1x1x16, .f32⟩
  | 32 => ⟨S1x2048x12x16, .f32⟩
  | 33 => ⟨S1x2048x12x16, .f32⟩
  | 34 => ⟨S1x2048x12x16, .f32⟩
  | 35 => ⟨S_, .f32⟩
  | 36 => ⟨S1x2048x12x1, .f32⟩
  | 37 => ⟨S1x2048x12x1, .f32⟩
  | 38 => ⟨S_, .f32⟩
  | 39 => ⟨S16, .f32⟩
  | 40 => ⟨S16, .f32⟩
  | 41 => ⟨S1x1x1x16, .f32⟩
  | 42 => ⟨S1x2048x12x16, .f32⟩
  | 43 => ⟨S1x2048x12x16, .f32⟩
  | 44 => ⟨S1x2048x12x16, .f32⟩
  | 45 => ⟨S1x2048x12x16, .f32⟩
  | 46 => ⟨S1x2048x12x16, .f32⟩
  | 47 => ⟨S1x1x12x16, .f32⟩
  | 48 => ⟨S1x2048x12x16, .f32⟩
  | 49 => ⟨S1x2048x12x16, .f32⟩
  | 50 => ⟨S_, .f32⟩
  | 51 => ⟨S1x2048x12, .f32⟩
  | 52 => ⟨S1x12x2048, .f32⟩
  | 53 => ⟨S1x12x1x2048, .f32⟩
  | 54 => ⟨S1x12x2048x2048, .f32⟩
  | 55 => ⟨S1x12x2048x2048, .f32⟩
  | 56 => ⟨S_, .i1⟩
  | 57 => ⟨S2048x2048, .i1⟩
  | 58 => ⟨S2048x2048, .i32⟩
  | 59 => ⟨S_, .i32⟩
  | 60 => ⟨S2048x2048, .i32⟩
  | 61 => ⟨S2048x2048, .i32⟩
  | 62 => ⟨S2048x2048, .i32⟩
  | 63 => ⟨S2048x2048, .i1⟩
  | 64 => ⟨S_, .i1⟩
  | 65 => ⟨S2048x2048, .i1⟩
  | 66 => ⟨S2048x2048, .i1⟩
  | 67 => ⟨S1x1x2048x2048, .i1⟩
  | 68 => ⟨S_, .f32⟩
  | 69 => ⟨S_, .f32⟩
  | 70 => ⟨S1x12x2048x2048, .i1⟩
  | 71 => ⟨S1x12x2048x2048, .f32⟩
  | 72 => ⟨S1x12x2048x2048, .f32⟩
  | 73 => ⟨S_, .f32⟩
  | 74 => ⟨S1x12x2048, .f32⟩
  | 75 => ⟨S_, .f32⟩
  | 76 => ⟨S1x12x2048, .f32⟩
  | 77 => ⟨S1x12x2048, .f32⟩
  | 78 => ⟨S1x12x2048x1, .f32⟩
  | 79 => ⟨S1x12x2048x2048, .f32⟩
  | 80 => ⟨S1x12x2048x2048, .f32⟩
  | 81 => ⟨S1x12x2048x2048, .f32⟩
  | 82 => ⟨S_, .f32⟩
  | 83 => ⟨S1x12x2048, .f32⟩
  | 84 => ⟨S1x12x2048x1, .f32⟩
  | 85 => ⟨S1x12x2048x2048, .f32⟩
  | 86 => ⟨S1x12x2048x2048, .f32⟩
  | 87 => ⟨S1x12x2048x16, .f32⟩
  | 88 => ⟨S12x2048x2048, .f32⟩
  | 89 => ⟨S12x2048x16, .f32⟩
  | 90 => ⟨S12x2048x16, .f32⟩
  | 91 => ⟨S1x12x2048x16, .f32⟩
  | 92 => ⟨S1x2048x12x16, .f32⟩
  | 93 => ⟨S1x2048x192, .f32⟩
  | 94 => ⟨S192x768, .f32⟩
  | 95 => ⟨S1x2048x768, .f32⟩
  | _ => ⟨S1x2048x768, .f32⟩

abbrev hbmTy (i : Nat) : BufTy := match i / 128 with
  | 0 => hbmTy0_0 i
  | 1 => hbmTy0_1 i
  | _ => ⟨S1x2048x768, .f32⟩

abbrev bufTy : (tb : Table) → Fin (tcTables nBuf tb) → BufTy
  | .hbm, ⟨i, _⟩ => hbmTy i
  | _, _ => ⟨S1x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_call0_v0 : Ref sig .tc := ⟨.hbm, 17, rfl⟩
abbrev main_call0_cst : Ref sig .tc := ⟨.hbm, 18, rfl⟩
abbrev main_call0_v1 : Ref sig .tc := ⟨.hbm, 19, rfl⟩
abbrev main_call0_v2 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_call1_v0 : Ref sig .tc := ⟨.hbm, 27, rfl⟩
abbrev main_call1_cst : Ref sig .tc := ⟨.hbm, 28, rfl⟩
abbrev main_call1_v1 : Ref sig .tc := ⟨.hbm, 29, rfl⟩
abbrev main_call1_v2 : Ref sig .tc := ⟨.hbm, 30, rfl⟩
abbrev main_v14 : Ref sig .tc := ⟨.hbm, 31, rfl⟩
abbrev main_cst_0 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_call2_v0 : Ref sig .tc := ⟨.hbm, 39, rfl⟩
abbrev main_call2_cst : Ref sig .tc := ⟨.hbm, 40, rfl⟩
abbrev main_call2_v1 : Ref sig .tc := ⟨.hbm, 41, rfl⟩
abbrev main_call2_v2 : Ref sig .tc := ⟨.hbm, 42, rfl⟩
abbrev main_v21 : Ref sig .tc := ⟨.hbm, 43, rfl⟩
abbrev main_cst_1 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_cst_2 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_cst_3 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_cst_4 : Ref sig .tc := ⟨.hbm, 59, rfl⟩
abbrev main_v34 : Ref sig .tc := ⟨.hbm, 60, rfl⟩
abbrev main_v35 : Ref sig .tc := ⟨.hbm, 61, rfl⟩
abbrev main_cst_5 : Ref sig .tc := ⟨.hbm, 62, rfl⟩
abbrev main_v36 : Ref sig .tc := ⟨.hbm, 63, rfl⟩
abbrev main_v37 : Ref sig .tc := ⟨.hbm, 64, rfl⟩
abbrev main_cst_6 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_c : Ref sig .tc := ⟨.hbm, 71, rfl⟩
abbrev main_v43 : Ref sig .tc := ⟨.hbm, 72, rfl⟩
abbrev main_v44 : Ref sig .tc := ⟨.hbm, 73, rfl⟩
abbrev main_c_7 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_cst_8 : Ref sig .tc := ⟨.hbm, 82, rfl⟩
abbrev main_v52 : Ref sig .tc := ⟨.hbm, 83, rfl⟩
abbrev main_v53 : Ref sig .tc := ⟨.hbm, 84, rfl⟩
abbrev main_cst_9 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_c_10 : Ref sig .tc := ⟨.hbm, 98, rfl⟩
abbrev main_v66 : Ref sig .tc := ⟨.hbm, 99, rfl⟩
abbrev main_v67 : Ref sig .tc := ⟨.hbm, 100, rfl⟩
abbrev main_c_11 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_cst_12 : Ref sig .tc := ⟨.hbm, 109, rfl⟩
abbrev main_v75 : Ref sig .tc := ⟨.hbm, 110, rfl⟩
abbrev main_v76 : Ref sig .tc := ⟨.hbm, 111, rfl⟩
abbrev main_cst_13 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_c_14 : Ref sig .tc := ⟨.hbm, 125, rfl⟩
abbrev main_v89 : Ref sig .tc := ⟨.hbm, 126, rfl⟩
abbrev main_v90 : Ref sig .tc := ⟨.hbm, 127, rfl⟩
abbrev main_c_15 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_cst_16 : Ref sig .tc := ⟨.hbm, 136, rfl⟩
abbrev main_v98 : Ref sig .tc := ⟨.hbm, 137, rfl⟩
abbrev main_v99 : Ref sig .tc := ⟨.hbm, 138, rfl⟩
abbrev main_cst_17 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_v103 : Ref sig .tc := ⟨.hbm, 143, rfl⟩
abbrev main_v104 : Ref sig .tc := ⟨.hbm, 144, rfl⟩
abbrev main_v105 : Ref sig .tc := ⟨.hbm, 145, rfl⟩
abbrev main_v106 : Ref sig .tc := ⟨.hbm, 146, rfl⟩
abbrev main_v107 : Ref sig .tc := ⟨.hbm, 147, rfl⟩
abbrev main_v108 : Ref sig .tc := ⟨.hbm, 148, rfl⟩
abbrev main_v109 : Ref sig .tc := ⟨.hbm, 149, rfl⟩
abbrev main_v110 : Ref sig .tc := ⟨.hbm, 150, rfl⟩
abbrev main_v111 : Ref sig .tc := ⟨.hbm, 151, rfl⟩
abbrev main_c_18 : Ref sig .tc := ⟨.hbm, 152, rfl⟩
abbrev main_v112 : Ref sig .tc := ⟨.hbm, 153, rfl⟩
abbrev main_v113 : Ref sig .tc := ⟨.hbm, 154, rfl⟩
abbrev main_c_19 : Ref sig .tc := ⟨.hbm, 155, rfl⟩
abbrev main_v114 : Ref sig .tc := ⟨.hbm, 156, rfl⟩
abbrev main_v115 : Ref sig .tc := ⟨.hbm, 157, rfl⟩
abbrev main_v116 : Ref sig .tc := ⟨.hbm, 158, rfl⟩
abbrev main_v117 : Ref sig .tc := ⟨.hbm, 159, rfl⟩
abbrev main_v118 : Ref sig .tc := ⟨.hbm, 160, rfl⟩
abbrev main_v119 : Ref sig .tc := ⟨.hbm, 161, rfl⟩
abbrev main_v120 : Ref sig .tc := ⟨.hbm, 162, rfl⟩
abbrev main_cst_20 : Ref sig .tc := ⟨.hbm, 163, rfl⟩
abbrev main_v121 : Ref sig .tc := ⟨.hbm, 164, rfl⟩
abbrev main_v122 : Ref sig .tc := ⟨.hbm, 165, rfl⟩
abbrev main_cst_21 : Ref sig .tc := ⟨.hbm, 166, rfl⟩
abbrev main_v123 : Ref sig .tc := ⟨.hbm, 167, rfl⟩
abbrev main_v124 : Ref sig .tc := ⟨.hbm, 168, rfl⟩
abbrev main_v125 : Ref sig .tc := ⟨.hbm, 169, rfl⟩
abbrev main_v126 : Ref sig .tc := ⟨.hbm, 170, rfl⟩
abbrev main_v127 : Ref sig .tc := ⟨.hbm, 171, rfl⟩
abbrev main_v128 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_cst_22 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_v138 : Ref sig .tc := ⟨.hbm, 183, rfl⟩
abbrev main_c_23 : Ref sig .tc := ⟨.hbm, 184, rfl⟩
abbrev main_v139 : Ref sig .tc := ⟨.hbm, 185, rfl⟩
abbrev main_call3_v0 : Ref sig .tc := ⟨.hbm, 186, rfl⟩
abbrev main_call3_c : Ref sig .tc := ⟨.hbm, 187, rfl⟩
abbrev main_call3_v1 : Ref sig .tc := ⟨.hbm, 188, rfl⟩
abbrev main_call3_v2 : Ref sig .tc := ⟨.hbm, 189, rfl⟩
abbrev main_call3_v3 : Ref sig .tc := ⟨.hbm, 190, rfl⟩
abbrev main_call3_v4 : Ref sig .tc := ⟨.hbm, 191, rfl⟩
abbrev main_call3_c_0 : Ref sig .tc := ⟨.hbm, 192, rfl⟩
abbrev main_call3_v5 : Ref sig .tc := ⟨.hbm, 193, rfl⟩
abbrev main_v140 : Ref sig .tc := ⟨.hbm, 194, rfl⟩
abbrev main_v141 : Ref sig .tc := ⟨.hbm, 195, rfl⟩
abbrev main_cst_24 : Ref sig .tc := ⟨.hbm, 196, rfl⟩
abbrev main_call4_v0 : Ref sig .tc := ⟨.hbm, 197, rfl⟩
abbrev main_call4_v1 : Ref sig .tc := ⟨.hbm, 198, rfl⟩
abbrev main_call4_v2 : Ref sig .tc := ⟨.hbm, 199, rfl⟩
abbrev main_v142 : Ref sig .tc := ⟨.hbm, 200, rfl⟩
abbrev main_cst_25 : Ref sig .tc := ⟨.hbm, 201, rfl⟩
abbrev main_v143 : Ref sig .tc := ⟨.hbm, 202, rfl⟩
abbrev main_cst_26 : Ref sig .tc := ⟨.hbm, 203, rfl⟩
abbrev main_v144 : Ref sig .tc := ⟨.hbm, 204, rfl⟩
abbrev main_v145 : Ref sig .tc := ⟨.hbm, 205, rfl⟩
abbrev main_v146 : Ref sig .tc := ⟨.hbm, 206, rfl⟩
abbrev main_v147 : Ref sig .tc := ⟨.hbm, 207, rfl⟩
abbrev main_v148 : Ref sig .tc := ⟨.hbm, 208, rfl⟩
abbrev main_v149 : Ref sig .tc := ⟨.hbm, 209, rfl⟩
abbrev main_cst_27 : Ref sig .tc := ⟨.hbm, 210, rfl⟩
abbrev main_v150 : Ref sig .tc := ⟨.hbm, 211, rfl⟩
abbrev main_v151 : Ref sig .tc := ⟨.hbm, 212, rfl⟩
abbrev main_v152 : Ref sig .tc := ⟨.hbm, 213, rfl⟩
abbrev main_v153 : Ref sig .tc := ⟨.hbm, 214, rfl⟩
abbrev main_v154 : Ref sig .tc := ⟨.hbm, 215, rfl⟩
abbrev main_v155 : Ref sig .tc := ⟨.hbm, 216, rfl⟩
abbrev main_v156 : Ref sig .tc := ⟨.hbm, 217, rfl⟩
abbrev main_v157 : Ref sig .tc := ⟨.hbm, 218, rfl⟩
abbrev main_v158 : Ref sig .tc := ⟨.hbm, 219, rfl⟩
abbrev main_v159 : Ref sig .tc := ⟨.hbm, 220, rfl⟩
abbrev main_v160 : Ref sig .tc := ⟨.hbm, 221, rfl⟩
abbrev main_v161 : Ref sig .tc := ⟨.hbm, 222, rfl⟩
abbrev main_v162 : Ref sig .tc := ⟨.hbm, 223, rfl⟩

abbrev nD : Nat := 1
abbrev τ : Topo := Topo.v7x

variable {F : FTy → Type} [FloatOps F]
-- ==== Proof.IdealRun.lean ====
/- The launch of the idealised kernel, first part: one run of its body. It follows the usual set-up of a launch;
   the body stores 97 times and reads 30 arrays, so the run is long. -/
module

public import proofs.«01_k».proof.Proof.Gen.KernelIdeal.Frame.Runs

@[expose] public section

set_option maxRecDepth 16384
set_option maxHeartbeats 8000000

noncomputable section

namespace Cert.KernelIdeal.Launch

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- The stores of one run of the body into the output and into the two scratch arrays (last first), with the proof that,
    from whole arrays holding any contents, the body runs and hands back the inputs as they were and the output and the
    scratch arrays with these stores written over what they held. -/
noncomputable def kernelRun0_A (c : Dev nD) (arg0 : Memref sig .tc .vmem S2048x768 .f32) (harg0 : arg0.IsWhole) (arg1 : Memref sig .tc .vmem S48x768 .f32) (harg1 : arg1.IsWhole) (arg2 : Memref sig .tc .vmem S48x768 .f32) (harg2 : arg2.IsWhole) (arg3 : Memref sig .tc .vmem S192x768 .f32) (harg3 : arg3.IsWhole) (arg4 : Memref sig .tc .vmem S48x4 .f32) (harg4 : arg4.IsWhole) (arg5 : Memref sig .tc .vmem S4x4 .f32) (harg5 : arg5.IsWhole) (arg6 : Memref sig .tc .vmem S12x16 .f32) (harg6 : arg6.IsWhole) (arg7 : Memref sig .tc .vmem S96x48 .f32) (harg7 : arg7.IsWhole) (arg8 : Memref sig .tc .vmem S4x96 .f32) (harg8 : arg8.IsWhole) (arg9 : Memref sig .tc .vmem S96x4 .f32) (harg9 : arg9.IsWhole) (arg10 : Memref sig .tc .vmem S96x12 .f32) (harg10 : arg10.IsWhole) (arg11 : Memref sig .tc .vmem S16x192 .f32) (harg11 : arg11.IsWhole) (arg12 : Memref sig .tc .vmem S96x192 .f32) (harg12 : arg12.IsWhole) (arg13 : Memref sig .tc .vmem S96x96 .f32) (harg13 : arg13.IsWhole) (arg14 : Memref sig .tc .vmem S96x1 .f32) (harg14 : arg14.IsWhole) (arg15 : Memref sig .tc .vmem S24x96 .f32) (harg15 : arg15.IsWhole) (arg16 : Memref sig .tc .vmem S24x1 .f32) (harg16 : arg16.IsWhole) (arg17 : Memref sig .tc .vmem S48x24 .f32) (harg17 : arg17.IsWhole) (arg18 : Memref sig .tc .vmem S48x96 .f32) (harg18 : arg18.IsWhole) (arg19 : Memref sig .tc .vmem S48x1 .f32) (harg19 : arg19.IsWhole) (arg20 : Memref sig .tc .vmem S96x48 .f32) (harg20 : arg20.IsWhole) (arg21 : Memref sig .tc .vmem S96x96 .f32) (harg21 : arg21.IsWhole) (arg22 : Memref sig .tc .vmem S96x1 .f32) (harg22 : arg22.IsWhole) (arg23 : Memref sig .tc .vmem S192x96 .f32) (harg23 : arg23.IsWhole) (arg24 : Memref sig .tc .vmem S192x96 .f32) (harg24 : arg24.IsWhole) (arg25 : Memref sig .tc .vmem S192x1 .f32) (harg25 : arg25.IsWhole) (arg26 : Memref sig .tc .vmem S512x2048 .bf16) (harg26 : arg26.IsWhole) (arg27 : Memref sig .tc .vmem S32x2048 .bf16) (harg27 : arg27.IsWhole) (arg28 : Memref sig .tc .vmem S192x12 .f32) (harg28 : arg28.IsWhole) (arg29 : Memref sig .tc .vmem S768x192 .f32) (harg29 : arg29.IsWhole) (arg30 : Memref sig .tc .vmem S1x2048x768 .f32) (harg30 : arg30.IsWhole) (arg31 : Memref sig .tc .vmem S192x2048 .f32) (harg31 : arg31.IsWhole) (arg32 : Memref sig .tc .vmem S12x2048 .f32) (harg32 : arg32.IsWhole)
    (x0 : Vec F S2048x768 .f32) (x1 : Vec F S48x768 .f32) (x2 : Vec F S48x768 .f32) (x3 : Vec F S192x768 .f32) (x4 : Vec F S48x4 .f32) (x5 : Vec F S4x4 .f32) (x6 : Vec F S12x16 .f32) (x7 : Vec F S96x48 .f32) (x8 : Vec F S4x96 .f32) (x9 : Vec F S96x4 .f32) (x10 : Vec F S96x12 .f32) (x11 : Vec F S16x192 .f32) (x12 : Vec F S96x192 .f32) (x13 : Vec F S96x96 .f32) (x14 : Vec F S96x1 .f32) (x15 : Vec F S24x96 .f32) (x16 : Vec F S24x1 .f32) (x17 : Vec F S48x24 .f32) (x18 : Vec F S48x96 .f32) (x19 : Vec F S48x1 .f32) (x20 : Vec F S96x48 .f32) (x21 : Vec F S96x96 .f32) (x22 : Vec F S96x1 .f32) (x23 : Vec F S192x96 .f32) (x24 : Vec F S192x96 .f32) (x25 : Vec F S192x1 .f32) (x26 : Vec F S512x2048 .bf16) (x27 : Vec F S32x2048 .bf16) (x28 : Vec F S192x12 .f32) (x29 : Vec F S768x192 .f32) :
    Σ' (L30 : List (View.Piece (Elt F) S1x2048x768 .f32)), Σ' (LT0 : List (View.Piece (Elt F) S192x2048 .f32)), { LT1 : List (View.Piece (Elt F) S12x2048 .f32) //
      ∀ (E : Set ℕ) (K : PUnit → sProp 𝕄),
        iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25 ∗ owns (c : Thread nD τ) arg26 fullShare x26 ∗ owns (c : Thread nD τ) arg27 fullShare x27 ∗ owns (c : Thread nD τ) arg28 fullShare x28 ∗ owns (c : Thread nD τ) arg29 fullShare x29 ∗ (∃ d, owns (c : Thread nD τ) arg30 fullShare d) ∗ (∃ d, owns (c : Thread nD τ) arg31 fullShare d) ∗ (∃ d, owns (c : Thread nD τ) arg32 fullShare d)
            ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare x12 ∗ owns (c : Thread nD τ) arg13 fullShare x13 ∗ owns (c : Thread nD τ) arg14 fullShare x14 ∗ owns (c : Thread nD τ) arg15 fullShare x15 ∗ owns (c : Thread nD τ) arg16 fullShare x16 ∗ owns (c : Thread nD τ) arg17 fullShare x17 ∗ owns (c : Thread nD τ) arg18 fullShare x18 ∗ owns (c : Thread nD τ) arg19 fullShare x19 ∗ owns (c : Thread nD τ) arg20 fullShare x20 ∗ owns (c : Thread nD τ) arg21 fullShare x21 ∗ owns (c : Thread nD τ) arg22 fullShare x22 ∗ owns (c : Thread nD τ) arg23 fullShare x23 ∗ owns (c : Thread nD τ) arg24 fullShare x24 ∗ owns (c : Thread nD τ) arg25 fullShare x25 ∗ owns (c : Thread nD τ) arg26 fullShare x26 ∗ owns (c : Thread nD τ) arg27 fullShare x27 ∗ owns (c : Thread nD τ) arg28 fullShare x28 ∗ owns (c : Thread nD τ) arg29 fullShare x29 ∗ (∃ f, arg30.view.loc (c : Thread nD τ) ↦[arg30.view.set]{fullShare} arg30.view.writes (Elt F) f L30) ∗ (∃ f, arg31.view.loc (c : Thread nD τ) ↦[arg31.view.set]{fullShare} arg31.view.writes (Elt F) f LT0) ∗ (∃ f, arg32.view.loc (c : Thread nD τ) ↦[arg32.view.set]{fullShare} arg32.view.writes (Elt F) f LT1)) -∗ K ⟨⟩))
          ⊢ wp frame (wpE (defs₀ (F := F)) Variants.none c none) E (cc0__fused_kernel arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32) K } := by
  refine ⟨?_, ?_, ?_, fun E K => ?run⟩
  case run =>
    simp only [cc0__fused_kernel_eq_skeleton]; unfold cc0__fused_kernel_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%f16, %hf16, H16⟩, ⟨%f17, %hf17, H17⟩, ⟨%f18, %hf18, H18⟩, ⟨%f19, %hf19, H19⟩, ⟨%f20, %hf20, H20⟩, ⟨%f21, %hf21, H21⟩, ⟨%f22, %hf22, H22⟩, ⟨%f23, %hf23, H23⟩, ⟨%f24, %hf24, H24⟩, ⟨%f25, %hf25, H25⟩, ⟨%f26, %hf26, H26⟩, ⟨%f27, %hf27, H27⟩, ⟨%f28, %hf28, H28⟩, ⟨%f29, %hf29, H29⟩, ⟨%d30, %f30, -, H30⟩, ⟨%ds0, %fs0, -, HS0⟩, ⟨%ds1, %fs1, -, HS1⟩, Hk⟩
    obtain rfl := harg0.eq_unread hf0; obtain rfl := harg1.eq_unread hf1; obtain rfl := harg2.eq_unread hf2; obtain rfl := harg3.eq_unread hf3; obtain rfl := harg4.eq_unread hf4; obtain rfl := harg5.eq_unread hf5; obtain rfl := harg6.eq_unread hf6; obtain rfl := harg7.eq_unread hf7; obtain rfl := harg8.eq_unread hf8; obtain rfl := harg9.eq_unread hf9; obtain rfl := harg10.eq_unread hf10; obtain rfl := harg11.eq_unread hf11; obtain rfl := harg12.eq_unread hf12; obtain rfl := harg13.eq_unread hf13; obtain rfl := harg14.eq_unread hf14; obtain rfl := harg15.eq_unread hf15; obtain rfl := harg16.eq_unread hf16; obtain rfl := harg17.eq_unread hf17; obtain rfl := harg18.eq_unread hf18; obtain rfl := harg19.eq_unread hf19; obtain rfl := harg20.eq_unread hf20; obtain rfl := harg21.eq_unread hf21; obtain rfl := harg22.eq_unread hf22; obtain rfl := harg23.eq_unread hf23; obtain rfl := harg24.eq_unread hf24; obtain rfl := harg25.eq_unread hf25; obtain rfl := harg26.eq_unread hf26; obtain rfl := harg27.eq_unread hf27; obtain rfl := harg28.eq_unread hf28; obtain rfl := harg29.eq_unread hf29
    sl_exec
    sl_step
    iapply Hk
    isplitl [H0]
    · iexists _; isplitr; · ipureintro; exact harg0.read_unread _
      iexact H0
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    isplitl [H9]
    · iexists _; isplitr; · ipureintro; exact harg9.read_unread _
      iexact H9
    isplitl [H10]
    · iexists _; isplitr; · ipureintro; exact harg10.read_unread _
      iexact H10
    isplitl [H11]
    · iexists _; isplitr; · ipureintro; exact harg11.read_unread _
      iexact H11
    isplitl [H12]
    · iexists _; isplitr; · ipureintro; exact harg12.read_unread _
      iexact H12
    isplitl [H13]
    · iexists _; isplitr; · ipureintro; exact harg13.read_unread _
      iexact H13
    isplitl [H14]
    · iexists _; isplitr; · ipureintro; exact harg14.read_unread _
      iexact H14
    isplitl [H15]
    · iexists _; isplitr; · ipureintro; exact harg15.read_unread _
      iexact H15
    isplitl [H16]
    · iexists _; isplitr; · ipureintro; exact harg16.read_unread _
      iexact H16
    isplitl [H17]
    · iexists _; isplitr; · ipureintro; exact harg17.read_unread _
      iexact H17
    isplitl [H18]
    · iexists _; isplitr; · ipureintro; exact harg18.read_unread _
      iexact H18
    isplitl [H19]
    · iexists _; isplitr; · ipureintro; exact harg19.read_unread _
      iexact H19
    isplitl [H20]
    · iexists _; isplitr; · ipureintro; exact harg20.read_unread _
      iexact H20
    isplitl [H21]
    · iexists _; isplitr; · ipureintro; exact harg21.read_unread _
      iexact H21
    isplitl [H22]
    · iexists _; isplitr; · ipureintro; exact harg22.read_unread _
      iexact H22
    isplitl [H23]
    · iexists _; isplitr; · ipureintro; exact harg23.read_unread _
      iexact H23
    isplitl [H24]
    · iexists _; isplitr; · ipureintro; exact harg24.read_unread _
      iexact H24
    isplitl [H25]
    · iexists _; isplitr; · ipureintro; exact harg25.read_unread _
      iexact H25
    isplitl [H26]
    · iexists _; isplitr; · ipureintro; exact harg26.read_unread _
      iexact H26
    isplitl [H27]
    · iexists _; isplitr; · ipureintro; exact harg27.read_unread _
      iexact H27
    isplitl [H28]
    · iexists _; isplitr; · ipureintro; exact harg28.read_unread _
      iexact H28
    isplitl [H29]
    · iexists _; isplitr; · ipureintro; exact harg29.read_unread _
      iexact H29
    isplitl [H30]; · iexists _; iexact H30
    isplitl [HS0]; · iexists _; iexact HS0
    iexists _; iexact HS1

end Cert.KernelIdeal.Launch

end
-- ==== Proof.IdealFrame.lean ====
/- The launch of the idealised kernel, second part: what the run of its body leaves, the proof data of the one
   pipeline, the launch, and the frame claim. It follows the usual set-up of a launch, over the run
   of `IdealRun`. -/
module

public import proofs.«01_k».proof.Proof.IdealRun
public import Idealize.ShloMosaic.Lib.Claim

@[expose] public section

set_option maxHeartbeats 8000000
set_option maxRecDepth 16384

noncomputable section

namespace Cert.KernelIdeal.Launch

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-- The run's one store into output 30 covers its block. -/
theorem cover0_A_30 (c : Dev nD) (arg0 : Memref sig .tc .vmem S2048x768 .f32) (harg0 : arg0.IsWhole) (arg1 : Memref sig .tc .vmem S48x768 .f32) (harg1 : arg1.IsWhole) (arg2 : Memref sig .tc .vmem S48x768 .f32) (harg2 : arg2.IsWhole) (arg3 : Memref sig .tc .vmem S192x768 .f32) (harg3 : arg3.IsWhole) (arg4 : Memref sig .tc .vmem S48x4 .f32) (harg4 : arg4.IsWhole) (arg5 : Memref sig .tc .vmem S4x4 .f32) (harg5 : arg5.IsWhole) (arg6 : Memref sig .tc .vmem S12x16 .f32) (harg6 : arg6.IsWhole) (arg7 : Memref sig .tc .vmem S96x48 .f32) (harg7 : arg7.IsWhole) (arg8 : Memref sig .tc .vmem S4x96 .f32) (harg8 : arg8.IsWhole) (arg9 : Memref sig .tc .vmem S96x4 .f32) (harg9 : arg9.IsWhole) (arg10 : Memref sig .tc .vmem S96x12 .f32) (harg10 : arg10.IsWhole) (arg11 : Memref sig .tc .vmem S16x192 .f32) (harg11 : arg11.IsWhole) (arg12 : Memref sig .tc .vmem S96x192 .f32) (harg12 : arg12.IsWhole) (arg13 : Memref sig .tc .vmem S96x96 .f32) (harg13 : arg13.IsWhole) (arg14 : Memref sig .tc .vmem S96x1 .f32) (harg14 : arg14.IsWhole) (arg15 : Memref sig .tc .vmem S24x96 .f32) (harg15 : arg15.IsWhole) (arg16 : Memref sig .tc .vmem S24x1 .f32) (harg16 : arg16.IsWhole) (arg17 : Memref sig .tc .vmem S48x24 .f32) (harg17 : arg17.IsWhole) (arg18 : Memref sig .tc .vmem S48x96 .f32) (harg18 : arg18.IsWhole) (arg19 : Memref sig .tc .vmem S48x1 .f32) (harg19 : arg19.IsWhole) (arg20 : Memref sig .tc .vmem S96x48 .f32) (harg20 : arg20.IsWhole) (arg21 : Memref sig .tc .vmem S96x96 .f32) (harg21 : arg21.IsWhole) (arg22 : Memref sig .tc .vmem S96x1 .f32) (harg22 : arg22.IsWhole) (arg23 : Memref sig .tc .vmem S192x96 .f32) (harg23 : arg23.IsWhole) (arg24 : Memref sig .tc .vmem S192x96 .f32) (harg24 : arg24.IsWhole) (arg25 : Memref sig .tc .vmem S192x1 .f32) (harg25 : arg25.IsWhole) (arg26 : Memref sig .tc .vmem S512x2048 .bf16) (harg26 : arg26.IsWhole) (arg27 : Memref sig .tc .vmem S32x2048 .bf16) (harg27 : arg27.IsWhole) (arg28 : Memref sig .tc .vmem S192x12 .f32) (harg28 : arg28.IsWhole) (arg29 : Memref sig .tc .vmem S768x192 .f32) (harg29 : arg29.IsWhole) (arg30 : Memref sig .tc .vmem S1x2048x768 .f32) (harg30 : arg30.IsWhole) (arg31 : Memref sig .tc .vmem S192x2048 .f32) (harg31 : arg31.IsWhole) (arg32 : Memref sig .tc .vmem S12x2048 .f32) (harg32 : arg32.IsWhole)
    (x0 : Vec F S2048x768 .f32) (x1 : Vec F S48x768 .f32) (x2 : Vec F S48x768 .f32) (x3 : Vec F S192x768 .f32) (x4 : Vec F S48x4 .f32) (x5 : Vec F S4x4 .f32) (x6 : Vec F S12x16 .f32) (x7 : Vec F S96x48 .f32) (x8 : Vec F S4x96 .f32) (x9 : Vec F S96x4 .f32) (x10 : Vec F S96x12 .f32) (x11 : Vec F S16x192 .f32) (x12 : Vec F S96x192 .f32) (x13 : Vec F S96x96 .f32) (x14 : Vec F S96x1 .f32) (x15 : Vec F S24x96 .f32) (x16 : Vec F S24x1 .f32) (x17 : Vec F S48x24 .f32) (x18 : Vec F S48x96 .f32) (x19 : Vec F S48x1 .f32) (x20 : Vec F S96x48 .f32) (x21 : Vec F S96x96 .f32) (x22 : Vec F S96x1 .f32) (x23 : Vec F S192x96 .f32) (x24 : Vec F S192x96 .f32) (x25 : Vec F S192x1 .f32) (x26 : Vec F S512x2048 .bf16) (x27 : Vec F S32x2048 .bf16) (x28 : Vec F S192x12 .f32) (x29 : Vec F S768x192 .f32) (y : S1x2048x768.Idx) :
    ∃ pc ∈ (kernelRun0_A c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 x13 x14 x15 x16 x17 x18 x19 x20 x21 x22 x23 x24 x25 x26 x27 x28 x29).1, y ∈ pc.1.set :=
  View.cover_of_tiledL (kernelRun0_A c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 x13 x14 x15 x16 x17 x18 x19 x20 x21 x22 x23 x24 x25 x26 x27 x28 x29).1 S1x2048x768.size (by sl_kernel_rfl) y

/-- What the run leaves in output 30's staging buffer: its pieces read back over junk. -/
def out0_A_30 (c : Dev nD) (arg0 : Memref sig .tc .vmem S2048x768 .f32) (harg0 : arg0.IsWhole) (arg1 : Memref sig .tc .vmem S48x768 .f32) (harg1 : arg1.IsWhole) (arg2 : Memref sig .tc .vmem S48x768 .f32) (harg2 : arg2.IsWhole) (arg3 : Memref sig .tc .vmem S192x768 .f32) (harg3 : arg3.IsWhole) (arg4 : Memref sig .tc .vmem S48x4 .f32) (harg4 : arg4.IsWhole) (arg5 : Memref sig .tc .vmem S4x4 .f32) (harg5 : arg5.IsWhole) (arg6 : Memref sig .tc .vmem S12x16 .f32) (harg6 : arg6.IsWhole) (arg7 : Memref sig .tc .vmem S96x48 .f32) (harg7 : arg7.IsWhole) (arg8 : Memref sig .tc .vmem S4x96 .f32) (harg8 : arg8.IsWhole) (arg9 : Memref sig .tc .vmem S96x4 .f32) (harg9 : arg9.IsWhole) (arg10 : Memref sig .tc .vmem S96x12 .f32) (harg10 : arg10.IsWhole) (arg11 : Memref sig .tc .vmem S16x192 .f32) (harg11 : arg11.IsWhole) (arg12 : Memref sig .tc .vmem S96x192 .f32) (harg12 : arg12.IsWhole) (arg13 : Memref sig .tc .vmem S96x96 .f32) (harg13 : arg13.IsWhole) (arg14 : Memref sig .tc .vmem S96x1 .f32) (harg14 : arg14.IsWhole) (arg15 : Memref sig .tc .vmem S24x96 .f32) (harg15 : arg15.IsWhole) (arg16 : Memref sig .tc .vmem S24x1 .f32) (harg16 : arg16.IsWhole) (arg17 : Memref sig .tc .vmem S48x24 .f32) (harg17 : arg17.IsWhole) (arg18 : Memref sig .tc .vmem S48x96 .f32) (harg18 : arg18.IsWhole) (arg19 : Memref sig .tc .vmem S48x1 .f32) (harg19 : arg19.IsWhole) (arg20 : Memref sig .tc .vmem S96x48 .f32) (harg20 : arg20.IsWhole) (arg21 : Memref sig .tc .vmem S96x96 .f32) (harg21 : arg21.IsWhole) (arg22 : Memref sig .tc .vmem S96x1 .f32) (harg22 : arg22.IsWhole) (arg23 : Memref sig .tc .vmem S192x96 .f32) (harg23 : arg23.IsWhole) (arg24 : Memref sig .tc .vmem S192x96 .f32) (harg24 : arg24.IsWhole) (arg25 : Memref sig .tc .vmem S192x1 .f32) (harg25 : arg25.IsWhole) (arg26 : Memref sig .tc .vmem S512x2048 .bf16) (harg26 : arg26.IsWhole) (arg27 : Memref sig .tc .vmem S32x2048 .bf16) (harg27 : arg27.IsWhole) (arg28 : Memref sig .tc .vmem S192x12 .f32) (harg28 : arg28.IsWhole) (arg29 : Memref sig .tc .vmem S768x192 .f32) (harg29 : arg29.IsWhole) (arg30 : Memref sig .tc .vmem S1x2048x768 .f32) (harg30 : arg30.IsWhole) (arg31 : Memref sig .tc .vmem S192x2048 .f32) (harg31 : arg31.IsWhole) (arg32 : Memref sig .tc .vmem S12x2048 .f32) (harg32 : arg32.IsWhole)
    (x0 : Vec F S2048x768 .f32) (x1 : Vec F S48x768 .f32) (x2 : Vec F S48x768 .f32) (x3 : Vec F S192x768 .f32) (x4 : Vec F S48x4 .f32) (x5 : Vec F S4x4 .f32) (x6 : Vec F S12x16 .f32) (x7 : Vec F S96x48 .f32) (x8 : Vec F S4x96 .f32) (x9 : Vec F S96x4 .f32) (x10 : Vec F S96x12 .f32) (x11 : Vec F S16x192 .f32) (x12 : Vec F S96x192 .f32) (x13 : Vec F S96x96 .f32) (x14 : Vec F S96x1 .f32) (x15 : Vec F S24x96 .f32) (x16 : Vec F S24x1 .f32) (x17 : Vec F S48x24 .f32) (x18 : Vec F S48x96 .f32) (x19 : Vec F S48x1 .f32) (x20 : Vec F S96x48 .f32) (x21 : Vec F S96x96 .f32) (x22 : Vec F S96x1 .f32) (x23 : Vec F S192x96 .f32) (x24 : Vec F S192x96 .f32) (x25 : Vec F S192x1 .f32) (x26 : Vec F S512x2048 .bf16) (x27 : Vec F S32x2048 .bf16) (x28 : Vec F S192x12 .f32) (x29 : Vec F S768x192 .f32) : Vec F S1x2048x768 .f32 :=
  VO0_30.read (Elt F) (VO0_30.writes (Elt F) VO0_30.junk (kernelRun0_A c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 x13 x14 x15 x16 x17 x18 x19 x20 x21 x22 x23 x24 x25 x26 x27 x28 x29).1)

/-! ## What the outputs hold after each point -/

/-- What the outputs' staging buffers hold after the body at point `t`: the run's contents at
    the point's memrefs and input blocks. -/
def outsAt0 (c : Dev nD) (t : Fin cfg0.N) : Vec F S1x2048x768 .f32 :=
  out0_A_30 c (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (ms0_23 t) (hs0_23 t) (ms0_24 t) (hs0_24 t) (ms0_25 t) (hs0_25 t) (ms0_26 t) (hs0_26 t) (ms0_27 t) (hs0_27 t) (ms0_28 t) (hs0_28 t) (ms0_29 t) (hs0_29 t) (ms0_30 t) (hs0_30 t) scM0_0 (Memref.isWhole_whole _) scM0_1 (Memref.isWhole_whole _) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t)

/-! ## The pipeline's proof data -/

/-- The proof data of the one pipeline on core `c`: the arrays as the region finds them (`V`); after the body at
    point `t` each input's buffer at its block and the outputs' at `outsAt0`; the invariant the class's
    (`ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => iblk m c 16 t
    | ⟨17, _⟩ => iblk m c 17 t
    | ⟨18, _⟩ => iblk m c 18 t
    | ⟨19, _⟩ => iblk m c 19 t
    | ⟨20, _⟩ => iblk m c 20 t
    | ⟨21, _⟩ => iblk m c 21 t
    | ⟨22, _⟩ => iblk m c 22 t
    | ⟨23, _⟩ => iblk m c 23 t
    | ⟨24, _⟩ => iblk m c 24 t
    | ⟨25, _⟩ => iblk m c 25 t
    | ⟨26, _⟩ => iblk m c 26 t
    | ⟨27, _⟩ => iblk m c 27 t
    | ⟨28, _⟩ => iblk m c 28 t
    | ⟨29, _⟩ => iblk m c 29 t
    | ⟨30, _⟩ => (outsAt0 m c t)
    | ⟨_ + 31, h⟩ => absurd h (Nat.not_lt.2 (Nat.le_add_left _ _))
  Φ _ := Pipeline.ΦA spec0 c
  q _ := fullShare
  owed _ := 0

/-- The proof data's arrays are the contents at the region's entry. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = iblk m c 16 t := by dsimp only [dats]
theorem after0_17 (c : Dev nD) (t : Fin cfg0.N) : (dats m 0 c).after 17 t = iblk m c 17 t := by dsimp only [dats]
theorem after0_18 (c : Dev nD) (t : Fin cfg0.N) : (dats m 0 c).after 18 t = iblk m c 18 t := by dsimp only [dats]
theorem after0_19 (c : Dev nD) (t : Fin cfg0.N) : (dats m 0 c).after 19 t = iblk m c 19 t := by dsimp only [dats]
theorem after0_20 (c : Dev nD) (t : Fin cfg0.N) : (dats m 0 c).after 20 t = iblk m c 20 t := by dsimp only [dats]
theorem after0_21 (c : Dev nD) (t : Fin cfg0.N) : (dats m 0 c).after 21 t = iblk m c 21 t := by dsimp only [dats]
theorem after0_22 (c : Dev nD) (t : Fin cfg0.N) : (dats m 0 c).after 22 t = iblk m c 22 t := by dsimp only [dats]
theorem after0_23 (c : Dev nD) (t : Fin cfg0.N) : (dats m 0 c).after 23 t = iblk m c 23 t := by dsimp only [dats]
theorem after0_24 (c : Dev nD) (t : Fin cfg0.N) : (dats m 0 c).after 24 t = iblk m c 24 t := by dsimp only [dats]
theorem after0_25 (c : Dev nD) (t : Fin cfg0.N) : (dats m 0 c).after 25 t = iblk m c 25 t := by dsimp only [dats]
theorem after0_26 (c : Dev nD) (t : Fin cfg0.N) : (dats m 0 c).after 26 t = iblk m c 26 t := by dsimp only [dats]
theorem after0_27 (c : Dev nD) (t : Fin cfg0.N) : (dats m 0 c).after 27 t = iblk m c 27 t := by dsimp only [dats]
theorem after0_28 (c : Dev nD) (t : Fin cfg0.N) : (dats m 0 c).after 28 t = iblk m c 28 t := by dsimp only [dats]
theorem after0_29 (c : Dev nD) (t : Fin cfg0.N) : (dats m 0 c).after 29 t = iblk m c 29 t := by dsimp only [dats]
theorem after0_30 (c : Dev nD) (t : Fin cfg0.N) : (dats m 0 c).after 30 t = (outsAt0 m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d
theorem before0_16 (c : Dev nD) (t : Fin cfg0.N) (d) : (dats m 0 c).before 16 t d = iblk m c 16 t :=
  before0_16_of m (dats m 0 c) (A_eq m c 16) (after0_16 m c) t d
theorem before0_17 (c : Dev nD) (t : Fin cfg0.N) (d) : (dats m 0 c).before 17 t d = iblk m c 17 t :=
  before0_17_of m (dats m 0 c) (A_eq m c 17) (after0_17 m c) t d
theorem before0_18 (c : Dev nD) (t : Fin cfg0.N) (d) : (dats m 0 c).before 18 t d = iblk m c 18 t :=
  before0_18_of m (dats m 0 c) (A_eq m c 18) (after0_18 m c) t d
theorem before0_19 (c : Dev nD) (t : Fin cfg0.N) (d) : (dats m 0 c).before 19 t d = iblk m c 19 t :=
  before0_19_of m (dats m 0 c) (A_eq m c 19) (after0_19 m c) t d
theorem before0_20 (c : Dev nD) (t : Fin cfg0.N) (d) : (dats m 0 c).before 20 t d = iblk m c 20 t :=
  before0_20_of m (dats m 0 c) (A_eq m c 20) (after0_20 m c) t d
theorem before0_21 (c : Dev nD) (t : Fin cfg0.N) (d) : (dats m 0 c).before 21 t d = iblk m c 21 t :=
  before0_21_of m (dats m 0 c) (A_eq m c 21) (after0_21 m c) t d
theorem before0_22 (c : Dev nD) (t : Fin cfg0.N) (d) : (dats m 0 c).before 22 t d = iblk m c 22 t :=
  before0_22_of m (dats m 0 c) (A_eq m c 22) (after0_22 m c) t d
theorem before0_23 (c : Dev nD) (t : Fin cfg0.N) (d) : (dats m 0 c).before 23 t d = iblk m c 23 t :=
  before0_23_of m (dats m 0 c) (A_eq m c 23) (after0_23 m c) t d
theorem before0_24 (c : Dev nD) (t : Fin cfg0.N) (d) : (dats m 0 c).before 24 t d = iblk m c 24 t :=
  before0_24_of m (dats m 0 c) (A_eq m c 24) (after0_24 m c) t d
theorem before0_25 (c : Dev nD) (t : Fin cfg0.N) (d) : (dats m 0 c).before 25 t d = iblk m c 25 t :=
  before0_25_of m (dats m 0 c) (A_eq m c 25) (after0_25 m c) t d
theorem before0_26 (c : Dev nD) (t : Fin cfg0.N) (d) : (dats m 0 c).before 26 t d = iblk m c 26 t :=
  before0_26_of m (dats m 0 c) (A_eq m c 26) (after0_26 m c) t d
theorem before0_27 (c : Dev nD) (t : Fin cfg0.N) (d) : (dats m 0 c).before 27 t d = iblk m c 27 t :=
  before0_27_of m (dats m 0 c) (A_eq m c 27) (after0_27 m c) t d
theorem before0_28 (c : Dev nD) (t : Fin cfg0.N) (d) : (dats m 0 c).before 28 t d = iblk m c 28 t :=
  before0_28_of m (dats m 0 c) (A_eq m c 28) (after0_28 m c) t d
theorem before0_29 (c : Dev nD) (t : Fin cfg0.N) (d) : (dats m 0 c).before 29 t d = iblk m c 29 t :=
  before0_29_of m (dats m 0 c) (A_eq m c 29) (after0_29 m c) t d

/-! ## The body obligation, at a generic point -/

/-- What the body is called with at point `t` (the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d))
    ∗ (∃ d, owns (c : Thread nD τ) (ms0_23 t) fullShare ((dats m 0 c).before 23 t d))
    ∗ (∃ d, owns (c : Thread nD τ) (ms0_24 t) fullShare ((dats m 0 c).before 24 t d))
    ∗ (∃ d, owns (c : Thread nD τ) (ms0_25 t) fullShare ((dats m 0 c).before 25 t d))
    ∗ (∃ d, owns (c : Thread nD τ) (ms0_26 t) fullShare ((dats m 0 c).before 26 t d))
    ∗ (∃ d, owns (c : Thread nD τ) (ms0_27 t) fullShare ((dats m 0 c).before 27 t d))
    ∗ (∃ d, owns (c : Thread nD τ) (ms0_28 t) fullShare ((dats m 0 c).before 28 t d))
    ∗ (∃ d, owns (c : Thread nD τ) (ms0_29 t) fullShare ((dats m 0 c).before 29 t d))
    ∗ (∃ d, owns (c : Thread nD τ) (ms0_30 t) fullShare ((dats m 0 c).before 30 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t)
    ∗ owns (c : Thread nD τ) (ms0_23 t) fullShare ((dats m 0 c).after 23 t)
    ∗ owns (c : Thread nD τ) (ms0_24 t) fullShare ((dats m 0 c).after 24 t)
    ∗ owns (c : Thread nD τ) (ms0_25 t) fullShare ((dats m 0 c).after 25 t)
    ∗ owns (c : Thread nD τ) (ms0_26 t) fullShare ((dats m 0 c).after 26 t)
    ∗ owns (c : Thread nD τ) (ms0_27 t) fullShare ((dats m 0 c).after 27 t)
    ∗ owns (c : Thread nD τ) (ms0_28 t) fullShare ((dats m 0 c).after 28 t)
    ∗ owns (c : Thread nD τ) (ms0_29 t) fullShare ((dats m 0 c).after 29 t)
    ∗ owns (c : Thread nD τ) (ms0_30 t) fullShare ((dats m 0 c).after 30 t))

set_option maxHeartbeats 3200000 in
/-- The body at any point: the inputs' memrefs hold their blocks (`before0_W`); so the
    run applies; the invariant hands the body its scratch buffers at some contents (and the generator register) and takes them back at some contents (`PhiA_eq`); the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15, before0_16, before0_17, before0_18, before0_19, before0_20, before0_21, before0_22, before0_23, before0_24, before0_25, before0_26, before0_27, before0_28, before0_29]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22, after0_23, after0_24, after0_25, after0_26, after0_27, after0_28, after0_29, after0_30]
  rw [show (dats m 0 c).Φ t.castSucc = Pipeline.ΦA spec0 c from rfl, PhiA0_eq]
  unfold outsAt0
  unfold out0_A_30
  iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩, ⟨%d23, H23⟩, ⟨%d24, H24⟩, ⟨%d25, H25⟩, ⟨%d26, H26⟩, ⟨%d27, H27⟩, ⟨%d28, H28⟩, ⟨%d29, H29⟩, ⟨%d30, H30⟩⟩
  iapply ((kernelRun0_A c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) (iblk m c 16 t) (iblk m c 17 t) (iblk m c 18 t) (iblk m c 19 t) (iblk m c 20 t) (iblk m c 21 t) (iblk m c 22 t) (iblk m c 23 t) (iblk m c 24 t) (iblk m c 25 t) (iblk m c 26 t) (iblk m c 27 t) (iblk m c 28 t) (iblk m c 29 t)).2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  isplitl [H30]; · iexists _; iexact H30
  isplitl [HS0]; · iexact HS0
  isplitl [HS1]; · iexact HS1
  iintro ⟨H0, H1, H2, H3, H4, H5, H6, H7, H8, H9, H10, H11, H12, H13, H14, H15, H16, H17, H18, H19, H20, H21, H22, H23, H24, H25, H26, H27, H28, H29, ⟨%e30, H30⟩, ⟨%fT0, HS0⟩, ⟨%fT1, HS1⟩⟩
  isplitl [HS0 HS1 Hg]
  · isplitl [HS0 HS1]
    · isplitl [HS0]
      · iexists _; unfold owns; iexists _; isplitr
        swap; · iexact HS0
        ipureintro; rfl
      iexists _; unfold owns; iexists _; isplitr
      swap; · iexact HS1
      ipureintro; rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  isplitl [H20]; · iexact H20
  isplitl [H21]; · iexact H21
  isplitl [H22]; · iexact H22
  isplitl [H23]; · iexact H23
  isplitl [H24]; · iexact H24
  isplitl [H25]; · iexact H25
  isplitl [H26]; · iexact H26
  isplitl [H27]; · iexact H27
  isplitl [H28]; · iexact H28
  isplitl [H29]; · iexact H29
  unfold owns; iexists _; isplitr
  swap; · iexact H30
  ipureintro; exact View.read_writes_of_cover _ _ _ _ _ (cover0_A_30 c _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The body obligation of the pipeline, at every point: the body's triple restated. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The launch: `run_main`'s statement, and every semaphore counter at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- For any values, from any memory with zero counters: every weakly fair execution of @main on the
    TensorCores terminates, and every final state has every array of the pipeline at what the proof data give and every other unscoped buffer as the region found it (`FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  frame_of m ρ (dats m) (A_eq m) (run_main m ρ)

/-- The frame claim, at any float values: every weakly fair execution terminates, the arguments end unchanged, and every
    semaphore counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  θ_run_and (unchanged m ρ) ((θ_run defs _ _).mono (fun _ h => h.2) (run_main_quiescent m ρ))

end Cert.KernelIdeal.Launch

end
-- ==== Proof.Blocks.lean ====
/- The blocks of the kernel's attention. A group `g` has four heads; a block of 512 queries `b` is handled for the
   four heads of a group at once, side by side in 2048 columns, and head `a` of the group takes its 512 columns
   against its values, which carry a row of ones. The forty-eight stores into each scratch array are one form over
   the group, the block and the head. -/
module

public import proofs.«01_k».proof.Proof.Gen.KernelIdeal.Skeleton

@[expose] public section

set_option maxRecDepth 16384

noncomputable section

namespace Attn

open Idealize.ShloMosaic Cert.KernelIdeal Cert.KernelIdeal.Gen

variable {F : FTy → Type} [FloatOps F] [Named F]

/-! Where the slices of a group, a block and a head lie. -/

theorem slices_group (g : Fin 3) : S96x2048.Slices ![32 * g.val, 0] S32x2048 := by revert g; decide
theorem slices_head (g : Fin 3) (a : Fin 4) : S192x2048.Slices ![64 * g.val + 16 * a.val, 0] S16x2048 := by
  revert g a; decide
theorem slices_block (b : Fin 4) : S32x2048.Slices ![0, 512 * b.val] S32x512 := by revert b; decide
theorem slices_vblock (b : Fin 4) : S17x2048.Slices ![0, 512 * b.val] S17x512 := by revert b; decide
theorem slices_cols (a : Fin 4) : S512x2048.Slices ![0, 512 * a.val] S512x512 := by revert a; decide
theorem slices_cols2 (a : Fin 4) : S1024x2048.Slices ![0, 512 * a.val] S1024x512 := by revert a; decide
theorem slices_cols3 (a : Fin 4) : S1536x2048.Slices ![0, 512 * a.val] S1536x512 := by revert a; decide

section
variable (kt qt : FVec F S96x2048 .bf16) (vt : FVec F S192x2048 .bf16) (am : FVec F S512x2048 .bf16)
  (qm : FVec F S32x2048 .bf16) (g : Fin 3) (b a : Fin 4)

/-- The thirty-two rows of a group. -/
def grp (z : FVec F S96x2048 .bf16) : FVec F S32x2048 .bf16 :=
  extractStridedSlice S32x2048 ![32 * g.val, 0] z (slices_group g)

/-- The values of a head with a row of ones below. -/
def vext : FVec F S17x2048 .bf16 :=
  concatenate S17x2048 0 [⟨S16x2048, extractStridedSlice S16x2048 ![64 * g.val + 16 * a.val, 0] vt (slices_head g a)⟩,
    ⟨S1x2048, k0_pay15 (F := F)⟩] concatenates_S16x2048_S1x2048_S17x2048_d0

/-- The queries of a block, four times side by side, each copy kept on the rows of its head. -/
def qblk : FVec F S32x2048 .bf16 :=
  mulf (concatenate S32x2048 1
    [⟨S32x512, extractStridedSlice S32x512 ![0, 512 * b.val] (grp g qt) (slices_block b)⟩,
     ⟨S32x512, extractStridedSlice S32x512 ![0, 512 * b.val] (grp g qt) (slices_block b)⟩,
     ⟨S32x512, extractStridedSlice S32x512 ![0, 512 * b.val] (grp g qt) (slices_block b)⟩,
     ⟨S32x512, extractStridedSlice S32x512 ![0, 512 * b.val] (grp g qt) (slices_block b)⟩]
    concatenates_S32x512_S32x512_S32x512_S32x512_S32x2048_d1) qm

/-- The weights of the block on the diagonal. -/
def diag : FVec F S512x2048 .bf16 :=
  exp2 (addf (truncf .bf16 (matmul dot_S32x512_S32x2048_S512x2048_0_0_1_1_n_n none
    (extractStridedSlice S32x512 ![0, 512 * b.val] (grp g kt) (slices_block b)) (qblk qt qm g b)
    (constant S512x2048 .f32 0x00000000#32)) bitsLt_bf16_f32) am)

/-- The weights of the positions before the block: of 512, 1024 and 1536 positions. -/
def past1 : FVec F S512x2048 .bf16 :=
  exp2 (truncf .bf16 (matmul dot_S32x512_S32x2048_S512x2048_0_0_1_1_n_n none
    (extractStridedSlice S32x512 ![0, 0] (grp g kt) slices_S32x2048_o0_0_S32x512) (qblk qt qm g b)
    (constant S512x2048 .f32 0x00000000#32)) bitsLt_bf16_f32)
def past2 : FVec F S1024x2048 .bf16 :=
  exp2 (truncf .bf16 (matmul dot_S32x1024_S32x2048_S1024x2048_0_0_1_1_n_n none
    (extractStridedSlice S32x1024 ![0, 0] (grp g kt) slices_S32x2048_o0_0_S32x1024) (qblk qt qm g b)
    (constant S1024x2048 .f32 0x00000000#32)) bitsLt_bf16_f32)
def past3 : FVec F S1536x2048 .bf16 :=
  exp2 (truncf .bf16 (matmul dot_S32x1536_S32x2048_S1536x2048_0_0_1_1_n_n none
    (extractStridedSlice S32x1536 ![0, 0] (grp g kt) slices_S32x2048_o0_0_S32x1536) (qblk qt qm g b)
    (constant S1536x2048 .f32 0x00000000#32)) bitsLt_bf16_f32)

/-- The block on the diagonal taken against the values of a head. -/
def now : FVec F S17x512 .f32 :=
  matmul dot_S17x512_S512x512_S17x512_1_0_0_1_n_n none
    (extractStridedSlice S17x512 ![0, 512 * b.val] (vext vt g a) (slices_vblock b))
    (extractStridedSlice S512x512 ![0, 512 * a.val] (diag kt qt am qm g b) (slices_cols a))
    (constant S17x512 .f32 0x00000000#32)

/-- The weighted values of a head in a block, and the sum of the weights in the last row. -/
def acc : FVec F S17x512 .f32 :=
  match b with
  | ⟨0, _⟩ => now kt qt vt am qm g b a
  | ⟨1, _⟩ => addf (now kt qt vt am qm g b a) (matmul dot_S17x512_S512x512_S17x512_1_0_0_1_n_n none
      (extractStridedSlice S17x512 ![0, 0] (vext vt g a) slices_S17x2048_o0_0_S17x512)
      (extractStridedSlice S512x512 ![0, 512 * a.val] (past1 kt qt qm g b) (slices_cols a))
      (constant S17x512 .f32 0x00000000#32))
  | ⟨2, _⟩ => addf (now kt qt vt am qm g b a) (matmul dot_S17x1024_S1024x512_S17x512_1_0_0_1_n_n none
      (extractStridedSlice S17x1024 ![0, 0] (vext vt g a) slices_S17x2048_o0_0_S17x1024)
      (extractStridedSlice S1024x512 ![0, 512 * a.val] (past2 kt qt qm g b) (slices_cols2 a))
      (constant S17x512 .f32 0x00000000#32))
  | ⟨3, _⟩ => addf (now kt qt vt am qm g b a) (matmul dot_S17x1536_S1536x512_S17x512_1_0_0_1_n_n none
      (extractStridedSlice S17x1536 ![0, 0] (vext vt g a) slices_S17x2048_o0_0_S17x1536)
      (extractStridedSlice S1536x512 ![0, 512 * a.val] (past3 kt qt qm g b) (slices_cols3 a))
      (constant S17x512 .f32 0x00000000#32))

/-- What is stored for the weighted values, and for the sums of the weights. -/
def accTop : FVec F S16x512 .f32 :=
  shapeCast S16x512 (extractStridedSlice S16x512 ![0, 0] (acc kt qt vt am qm g b a) slices_S17x512_o0_0_S16x512)
    shapeCasts_S16x512_S16x512
def accSum : FVec F S1x512 .f32 :=
  shapeCast S1x512 (extractStridedSlice S1x512 ![16, 0] (acc kt qt vt am qm g b a) slices_S17x512_o16_0_S1x512)
    shapeCasts_S1x512_S1x512

end

/-! ## The stores -/

theorem inb_top (g : Fin 3) (b a : Fin 4) :
    ∀ i, (![64 * g.val + 16 * a.val, 512 * b.val] : Fin 2 → Nat) i + S16x512.size i ≤ S192x2048.size i := by
  revert g b a; decide
theorem inb_sum (g : Fin 3) (b a : Fin 4) :
    ∀ i, (![4 * g.val + a.val, 512 * b.val] : Fin 2 → Nat) i + S1x512.size i ≤ S12x2048.size i := by
  revert g b a; decide

/-- The tiles in the order of the stores, the last first. -/
def tiles : List (Fin 3 × Fin 4 × Fin 4) :=
  [(⟨2, by decide⟩ : Fin 3), ⟨1, by decide⟩, ⟨0, by decide⟩].flatMap fun g =>
    [(⟨3, by decide⟩ : Fin 4), ⟨2, by decide⟩, ⟨1, by decide⟩, ⟨0, by decide⟩].flatMap fun b =>
      [(⟨3, by decide⟩ : Fin 4), ⟨2, by decide⟩, ⟨1, by decide⟩, ⟨0, by decide⟩].map fun a => (g, b, a)

theorem mem_tiles (p : Fin 3 × Fin 4 × Fin 4) : p ∈ tiles := by revert p; decide

/-- The store of a tile's weighted values. -/
def topPiece (kt qt : FVec F S96x2048 .bf16) (vt : FVec F S192x2048 .bf16) (am : FVec F S512x2048 .bf16)
    (qm : FVec F S32x2048 .bf16) (p : Fin 3 × Fin 4 × Fin 4) : View.Piece (Elt F) S192x2048 .f32 :=
  ⟨Rect.unit ![64 * p.1.val + 16 * p.2.2.val, 512 * p.2.1.val] S16x512.size (inb_top p.1 p.2.1 p.2.2),
    accTop kt qt vt am qm p.1 p.2.1 p.2.2⟩

/-- The store of a tile's sums of weights. -/
def sumPiece (kt qt : FVec F S96x2048 .bf16) (vt : FVec F S192x2048 .bf16) (am : FVec F S512x2048 .bf16)
    (qm : FVec F S32x2048 .bf16) (p : Fin 3 × Fin 4 × Fin 4) : View.Piece (Elt F) S12x2048 .f32 :=
  ⟨Rect.unit ![4 * p.1.val + p.2.2.val, 512 * p.2.1.val] S1x512.size (inb_sum p.1 p.2.1 p.2.2),
    accSum kt qt vt am qm p.1 p.2.1 p.2.2⟩

end Attn

end
-- ==== Proof.Stores.lean ====
/- The stores of one run of the kernel's body: the scratch arrays receive the tiles of `Blocks`, and the output is
   the last product over what the scratch arrays then hold. -/
module

public import proofs.«01_k».proof.Proof.IdealRun
public import proofs.«01_k».proof.Proof.Blocks
public import Idealize.ShloMosaic.Lib.Pipeline.Value

@[expose] public section

set_option maxRecDepth 16384
set_option maxHeartbeats 4000000

noncomputable section

namespace Attn

open Idealize.ShloMosaic Idealize.ShloMosaic.TcCoe Idealize.SL Cert.KernelIdeal Cert.KernelIdeal.Gen Cert.KernelIdeal.Launch

variable {F : FTy → Type} [FloatOps F] [Named F]

/-- The keys on their padded rows, from the arrays the body reads. -/
def keysOf
    (x0 : FVec F S2048x768 .f32) (x2 : FVec F S48x768 .f32) (x5 : FVec F S4x4 .f32) (x6 : FVec F S12x16 .f32) (x7 : FVec F S96x48 .f32)
    (x8 : FVec F S4x96 .f32) (x9 : FVec F S96x4 .f32) (x10 : FVec F S96x12 .f32) (x11 : FVec F S16x192 .f32) (x12 : FVec F S96x192 .f32)
    (x13 : FVec F S96x96 .f32) (x15 : FVec F S24x96 .f32) (x16 : FVec F S24x1 .f32) (x17 : FVec F S48x24 .f32) (x18 : FVec F S48x96 .f32)
    (x19 : FVec F S48x1 .f32) (x20 : FVec F S96x48 .f32) (x21 : FVec F S96x96 .f32) (x22 : FVec F S96x1 .f32) (x23 : FVec F S192x96 .f32)
    (x24 : FVec F S192x96 .f32) (x25 : FVec F S192x1 .f32) : FVec F S96x2048 .bf16 :=
  k0_pay11 (k0_pay2 x0 x13 x7 x2) (k0_pay7 x13 x8 (k0_pay2 x0 x13 x7 x2) x9 x5) (k0_pay8 x13 x8 (k0_pay2 x0 x13 x7 x2) x9 x5 x15 x16 x17)
    (k0_pay9 x13 x8 (k0_pay2 x0 x13 x7 x2) x9 x5 x18 x19) x20 x21 x22 x23 x24 x25 x10 x6 x11 x12

/-- The queries on their padded rows. -/
def queriesOf
    (x0 : FVec F S2048x768 .f32) (x1 : FVec F S48x768 .f32) (x4 : FVec F S48x4 .f32) (x7 : FVec F S96x48 .f32) (x8 : FVec F S4x96 .f32)
    (x13 : FVec F S96x96 .f32) (x14 : FVec F S96x1 .f32) : FVec F S96x2048 .bf16 :=
  k0_pay10 (k0_pay6 x13 (k0_pay4 x0 x13 x7 x8 x1 x4) (k0_pay5 x0 x13 x7 x8 x1 x4) x14)

/-- The values. -/
def valuesOf (x0 : FVec F S2048x768 .f32) (x3 : FVec F S192x768 .f32) : FVec F S192x2048 .bf16 := k0_pay12 (k0_pay3 x0 x3)

/-- The additive mask of a block on the diagonal. -/
def maskOf (x26 : FVec F S512x2048 .bf16) : FVec F S512x2048 .bf16 := k0_pay14 (k0_pay13 x26)

/-- What the body leaves in the output block. -/
def bodyOut
    (x0 : FVec F S2048x768 .f32) (x1 : FVec F S48x768 .f32) (x2 : FVec F S48x768 .f32) (x3 : FVec F S192x768 .f32) (x4 : FVec F S48x4 .f32)
    (x5 : FVec F S4x4 .f32) (x6 : FVec F S12x16 .f32) (x7 : FVec F S96x48 .f32) (x8 : FVec F S4x96 .f32) (x9 : FVec F S96x4 .f32)
    (x10 : FVec F S96x12 .f32) (x11 : FVec F S16x192 .f32) (x12 : FVec F S96x192 .f32) (x13 : FVec F S96x96 .f32) (x14 : FVec F S96x1 .f32)
    (x15 : FVec F S24x96 .f32) (x16 : FVec F S24x1 .f32) (x17 : FVec F S48x24 .f32) (x18 : FVec F S48x96 .f32) (x19 : FVec F S48x1 .f32)
    (x20 : FVec F S96x48 .f32) (x21 : FVec F S96x96 .f32) (x22 : FVec F S96x1 .f32) (x23 : FVec F S192x96 .f32) (x24 : FVec F S192x96 .f32)
    (x25 : FVec F S192x1 .f32) (x26 : FVec F S512x2048 .bf16) (x27 : FVec F S32x2048 .bf16) (x28 : FVec F S192x12 .f32) (x29 : FVec F S768x192 .f32) : FVec F S1x2048x768 .f32 :=
  k0_pay229 x28
    (View.canon (tiles.map (sumPiece (keysOf x0 x2 x5 x6 x7 x8 x9 x10 x11 x12 x13 x15 x16 x17 x18 x19 x20 x21 x22 x23 x24 x25) (queriesOf x0 x1 x4 x7 x8 x13 x14) (valuesOf x0 x3) (maskOf x26) x27)))
    (View.canon (tiles.map (topPiece (keysOf x0 x2 x5 x6 x7 x8 x9 x10 x11 x12 x13 x15 x16 x17 x18 x19 x20 x21 x22 x23 x24 x25) (queriesOf x0 x1 x4 x7 x8 x13 x14) (valuesOf x0 x3) (maskOf x26) x27))) x29

/-- A load of a whole array. -/
def rd {s : Shape} {e : EltTy} (m : Memref sig .tc .vmem s e) (h : m.IsWhole) (off : Fin s.rank → ℕ)
    (inb : ∀ a, off a + s.size a ≤ s.size a) (x : Vec F s e) : Vec F s e :=
  View.readAt (Elt F) m.view (Rect.unit off s.size inb).toLoadRect (h.unread x)

/-- It reads what the array holds. -/
theorem rd_eq {s : Shape} {e : EltTy} (m : Memref sig .tc .vmem s e) (h : m.IsWhole) {off : Fin s.rank → ℕ}
    (h0 : off = fun _ => 0) (inb : ∀ a, off a + s.size a ≤ s.size a) (x : Vec F s e) : rd m h off inb x = x := by
  unfold rd
  rw [View.readAt_eq_ld, h.read_unread, View.ld_unit_zero h0]

/-- A load of a whole scratch array reads what the stores into it left. -/
theorem scratch_read {s : Shape} {e : EltTy} (m : Memref sig .tc .vmem s e) {off : Fin s.rank → ℕ}
    (h0 : off = fun _ => 0) (inb : ∀ a, off a + s.size a ≤ s.size a) (L : List (View.Piece (Elt F) s e)) :
    m.view.readCov L (Rect.unit off s.size inb).toLoadRect = View.canon L := by
  rw [View.readCov_eq_canon']
  exact View.ld_unit_zero h0 inb (View.canon L)

/-- The list of the one store into the output, as the run finds it. -/
theorem stores
    (c : Dev nD) (arg0 : Memref sig .tc .vmem S2048x768 .f32) (harg0 : arg0.IsWhole) (arg1 : Memref sig .tc .vmem S48x768 .f32) (harg1 : arg1.IsWhole)
    (arg2 : Memref sig .tc .vmem S48x768 .f32) (harg2 : arg2.IsWhole) (arg3 : Memref sig .tc .vmem S192x768 .f32) (harg3 : arg3.IsWhole)
    (arg4 : Memref sig .tc .vmem S48x4 .f32) (harg4 : arg4.IsWhole) (arg5 : Memref sig .tc .vmem S4x4 .f32) (harg5 : arg5.IsWhole)
    (arg6 : Memref sig .tc .vmem S12x16 .f32) (harg6 : arg6.IsWhole) (arg7 : Memref sig .tc .vmem S96x48 .f32) (harg7 : arg7.IsWhole)
    (arg8 : Memref sig .tc .vmem S4x96 .f32) (harg8 : arg8.IsWhole) (arg9 : Memref sig .tc .vmem S96x4 .f32) (harg9 : arg9.IsWhole)
    (arg10 : Memref sig .tc .vmem S96x12 .f32) (harg10 : arg10.IsWhole) (arg11 : Memref sig .tc .vmem S16x192 .f32) (harg11 : arg11.IsWhole)
    (arg12 : Memref sig .tc .vmem S96x192 .f32) (harg12 : arg12.IsWhole) (arg13 : Memref sig .tc .vmem S96x96 .f32) (harg13 : arg13.IsWhole)
    (arg14 : Memref sig .tc .vmem S96x1 .f32) (harg14 : arg14.IsWhole) (arg15 : Memref sig .tc .vmem S24x96 .f32) (harg15 : arg15.IsWhole)
    (arg16 : Memref sig .tc .vmem S24x1 .f32) (harg16 : arg16.IsWhole) (arg17 : Memref sig .tc .vmem S48x24 .f32) (harg17 : arg17.IsWhole)
    (arg18 : Memref sig .tc .vmem S48x96 .f32) (harg18 : arg18.IsWhole) (arg19 : Memref sig .tc .vmem S48x1 .f32) (harg19 : arg19.IsWhole)
    (arg20 : Memref sig .tc .vmem S96x48 .f32) (harg20 : arg20.IsWhole) (arg21 : Memref sig .tc .vmem S96x96 .f32) (harg21 : arg21.IsWhole)
    (arg22 : Memref sig .tc .vmem S96x1 .f32) (harg22 : arg22.IsWhole) (arg23 : Memref sig .tc .vmem S192x96 .f32) (harg23 : arg23.IsWhole)
    (arg24 : Memref sig .tc .vmem S192x96 .f32) (harg24 : arg24.IsWhole) (arg25 : Memref sig .tc .vmem S192x1 .f32) (harg25 : arg25.IsWhole)
    (arg26 : Memref sig .tc .vmem S512x2048 .bf16) (harg26 : arg26.IsWhole) (arg27 : Memref sig .tc .vmem S32x2048 .bf16) (harg27 : arg27.IsWhole)
    (arg28 : Memref sig .tc .vmem S192x12 .f32) (harg28 : arg28.IsWhole) (arg29 : Memref sig .tc .vmem S768x192 .f32) (harg29 : arg29.IsWhole)
    (arg30 : Memref sig .tc .vmem S1x2048x768 .f32) (harg30 : arg30.IsWhole) (arg31 : Memref sig .tc .vmem S192x2048 .f32) (harg31 : arg31.IsWhole)
    (arg32 : Memref sig .tc .vmem S12x2048 .f32) (harg32 : arg32.IsWhole)
    (x0 : Vec F S2048x768 .f32) (x1 : Vec F S48x768 .f32) (x2 : Vec F S48x768 .f32) (x3 : Vec F S192x768 .f32) (x4 : Vec F S48x4 .f32)
    (x5 : Vec F S4x4 .f32) (x6 : Vec F S12x16 .f32) (x7 : Vec F S96x48 .f32) (x8 : Vec F S4x96 .f32) (x9 : Vec F S96x4 .f32) (x10 : Vec F S96x12 .f32)
    (x11 : Vec F S16x192 .f32) (x12 : Vec F S96x192 .f32) (x13 : Vec F S96x96 .f32) (x14 : Vec F S96x1 .f32) (x15 : Vec F S24x96 .f32)
    (x16 : Vec F S24x1 .f32) (x17 : Vec F S48x24 .f32) (x18 : Vec F S48x96 .f32) (x19 : Vec F S48x1 .f32) (x20 : Vec F S96x48 .f32)
    (x21 : Vec F S96x96 .f32) (x22 : Vec F S96x1 .f32) (x23 : Vec F S192x96 .f32) (x24 : Vec F S192x96 .f32) (x25 : Vec F S192x1 .f32)
    (x26 : Vec F S512x2048 .bf16) (x27 : Vec F S32x2048 .bf16) (x28 : Vec F S192x12 .f32) (x29 : Vec F S768x192 .f32) :
    (kernelRun0_A (F := F) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 x13 x14 x15 x16 x17 x18 x19 x20 x21 x22 x23 x24 x25 x26 x27 x28 x29).1
      = [⟨Rect.unit ![0, 0, 0] ![1, 2048, 768] inb_S1x2048x768_S1x2048x768_0_0_0,
          k0_pay229 (rd arg28 harg28 ![0, 0] inb_S192x12_S192x12_0_0 x28)
            (arg32.view.readCov (tiles.map (sumPiece (keysOf (rd arg0 harg0 ![0, 0] inb_S2048x768_S2048x768_0_0 x0) (rd arg2 harg2 ![0, 0] inb_S48x768_S48x768_0_0 x2) (rd arg5 harg5 ![0, 0] inb_S4x4_S4x4_0_0 x5) (rd arg6 harg6 ![0, 0] inb_S12x16_S12x16_0_0 x6) (rd arg7 harg7 ![0, 0] inb_S96x48_S96x48_0_0 x7) (rd arg8 harg8 ![0, 0] inb_S4x96_S4x96_0_0 x8) (rd arg9 harg9 ![0, 0] inb_S96x4_S96x4_0_0 x9) (rd arg10 harg10 ![0, 0] inb_S96x12_S96x12_0_0 x10) (rd arg11 harg11 ![0, 0] inb_S16x192_S16x192_0_0 x11) (rd arg12 harg12 ![0, 0] inb_S96x192_S96x192_0_0 x12) (rd arg13 harg13 ![0, 0] inb_S96x96_S96x96_0_0 x13) (rd arg15 harg15 ![0, 0] inb_S24x96_S24x96_0_0 x15) (rd arg16 harg16 ![0, 0] inb_S24x1_S24x1_0_0 x16) (rd arg17 harg17 ![0, 0] inb_S48x24_S48x24_0_0 x17) (rd arg18 harg18 ![0, 0] inb_S48x96_S48x96_0_0 x18) (rd arg19 harg19 ![0, 0] inb_S48x1_S48x1_0_0 x19) (rd arg20 harg20 ![0, 0] inb_S96x48_S96x48_0_0 x20) (rd arg21 harg21 ![0, 0] inb_S96x96_S96x96_0_0 x21) (rd arg22 harg22 ![0, 0] inb_S96x1_S96x1_0_0 x22) (rd arg23 harg23 ![0, 0] inb_S192x96_S192x96_0_0 x23) (rd arg24 harg24 ![0, 0] inb_S192x96_S192x96_0_0 x24) (rd arg25 harg25 ![0, 0] inb_S192x1_S192x1_0_0 x25)) (queriesOf (rd arg0 harg0 ![0, 0] inb_S2048x768_S2048x768_0_0 x0) (rd arg1 harg1 ![0, 0] inb_S48x768_S48x768_0_0 x1) (rd arg4 harg4 ![0, 0] inb_S48x4_S48x4_0_0 x4) (rd arg7 harg7 ![0, 0] inb_S96x48_S96x48_0_0 x7) (rd arg8 harg8 ![0, 0] inb_S4x96_S4x96_0_0 x8) (rd arg13 harg13 ![0, 0] inb_S96x96_S96x96_0_0 x13) (rd arg14 harg14 ![0, 0] inb_S96x1_S96x1_0_0 x14)) (valuesOf (rd arg0 harg0 ![0, 0] inb_S2048x768_S2048x768_0_0 x0) (rd arg3 harg3 ![0, 0] inb_S192x768_S192x768_0_0 x3)) (maskOf (rd arg26 harg26 ![0, 0] inb_S512x2048_S512x2048_0_0 x26)) (rd arg27 harg27 ![0, 0] inb_S32x2048_S32x2048_0_0 x27))) (Rect.unit ![0, 0] S12x2048.size inb_S12x2048_S12x2048_0_0).toLoadRect)
            (arg31.view.readCov (tiles.map (topPiece (keysOf (rd arg0 harg0 ![0, 0] inb_S2048x768_S2048x768_0_0 x0) (rd arg2 harg2 ![0, 0] inb_S48x768_S48x768_0_0 x2) (rd arg5 harg5 ![0, 0] inb_S4x4_S4x4_0_0 x5) (rd arg6 harg6 ![0, 0] inb_S12x16_S12x16_0_0 x6) (rd arg7 harg7 ![0, 0] inb_S96x48_S96x48_0_0 x7) (rd arg8 harg8 ![0, 0] inb_S4x96_S4x96_0_0 x8) (rd arg9 harg9 ![0, 0] inb_S96x4_S96x4_0_0 x9) (rd arg10 harg10 ![0, 0] inb_S96x12_S96x12_0_0 x10) (rd arg11 harg11 ![0, 0] inb_S16x192_S16x192_0_0 x11) (rd arg12 harg12 ![0, 0] inb_S96x192_S96x192_0_0 x12) (rd arg13 harg13 ![0, 0] inb_S96x96_S96x96_0_0 x13) (rd arg15 harg15 ![0, 0] inb_S24x96_S24x96_0_0 x15) (rd arg16 harg16 ![0, 0] inb_S24x1_S24x1_0_0 x16) (rd arg17 harg17 ![0, 0] inb_S48x24_S48x24_0_0 x17) (rd arg18 harg18 ![0, 0] inb_S48x96_S48x96_0_0 x18) (rd arg19 harg19 ![0, 0] inb_S48x1_S48x1_0_0 x19) (rd arg20 harg20 ![0, 0] inb_S96x48_S96x48_0_0 x20) (rd arg21 harg21 ![0, 0] inb_S96x96_S96x96_0_0 x21) (rd arg22 harg22 ![0, 0] inb_S96x1_S96x1_0_0 x22) (rd arg23 harg23 ![0, 0] inb_S192x96_S192x96_0_0 x23) (rd arg24 harg24 ![0, 0] inb_S192x96_S192x96_0_0 x24) (rd arg25 harg25 ![0, 0] inb_S192x1_S192x1_0_0 x25)) (queriesOf (rd arg0 harg0 ![0, 0] inb_S2048x768_S2048x768_0_0 x0) (rd arg1 harg1 ![0, 0] inb_S48x768_S48x768_0_0 x1) (rd arg4 harg4 ![0, 0] inb_S48x4_S48x4_0_0 x4) (rd arg7 harg7 ![0, 0] inb_S96x48_S96x48_0_0 x7) (rd arg8 harg8 ![0, 0] inb_S4x96_S4x96_0_0 x8) (rd arg13 harg13 ![0, 0] inb_S96x96_S96x96_0_0 x13) (rd arg14 harg14 ![0, 0] inb_S96x1_S96x1_0_0 x14)) (valuesOf (rd arg0 harg0 ![0, 0] inb_S2048x768_S2048x768_0_0 x0) (rd arg3 harg3 ![0, 0] inb_S192x768_S192x768_0_0 x3)) (maskOf (rd arg26 harg26 ![0, 0] inb_S512x2048_S512x2048_0_0 x26)) (rd arg27 harg27 ![0, 0] inb_S32x2048_S32x2048_0_0 x27))) (Rect.unit ![0, 0] S192x2048.size inb_S192x2048_S192x2048_0_0).toLoadRect)
            (rd arg29 harg29 ![0, 0] inb_S768x192_S768x192_0_0 x29)⟩] := by
  rfl

/-- The output block after the body. -/
theorem body_out
    (c : Dev nD) (arg0 : Memref sig .tc .vmem S2048x768 .f32) (harg0 : arg0.IsWhole) (arg1 : Memref sig .tc .vmem S48x768 .f32) (harg1 : arg1.IsWhole)
    (arg2 : Memref sig .tc .vmem S48x768 .f32) (harg2 : arg2.IsWhole) (arg3 : Memref sig .tc .vmem S192x768 .f32) (harg3 : arg3.IsWhole)
    (arg4 : Memref sig .tc .vmem S48x4 .f32) (harg4 : arg4.IsWhole) (arg5 : Memref sig .tc .vmem S4x4 .f32) (harg5 : arg5.IsWhole)
    (arg6 : Memref sig .tc .vmem S12x16 .f32) (harg6 : arg6.IsWhole) (arg7 : Memref sig .tc .vmem S96x48 .f32) (harg7 : arg7.IsWhole)
    (arg8 : Memref sig .tc .vmem S4x96 .f32) (harg8 : arg8.IsWhole) (arg9 : Memref sig .tc .vmem S96x4 .f32) (harg9 : arg9.IsWhole)
    (arg10 : Memref sig .tc .vmem S96x12 .f32) (harg10 : arg10.IsWhole) (arg11 : Memref sig .tc .vmem S16x192 .f32) (harg11 : arg11.IsWhole)
    (arg12 : Memref sig .tc .vmem S96x192 .f32) (harg12 : arg12.IsWhole) (arg13 : Memref sig .tc .vmem S96x96 .f32) (harg13 : arg13.IsWhole)
    (arg14 : Memref sig .tc .vmem S96x1 .f32) (harg14 : arg14.IsWhole) (arg15 : Memref sig .tc .vmem S24x96 .f32) (harg15 : arg15.IsWhole)
    (arg16 : Memref sig .tc .vmem S24x1 .f32) (harg16 : arg16.IsWhole) (arg17 : Memref sig .tc .vmem S48x24 .f32) (harg17 : arg17.IsWhole)
    (arg18 : Memref sig .tc .vmem S48x96 .f32) (harg18 : arg18.IsWhole) (arg19 : Memref sig .tc .vmem S48x1 .f32) (harg19 : arg19.IsWhole)
    (arg20 : Memref sig .tc .vmem S96x48 .f32) (harg20 : arg20.IsWhole) (arg21 : Memref sig .tc .vmem S96x96 .f32) (harg21 : arg21.IsWhole)
    (arg22 : Memref sig .tc .vmem S96x1 .f32) (harg22 : arg22.IsWhole) (arg23 : Memref sig .tc .vmem S192x96 .f32) (harg23 : arg23.IsWhole)
    (arg24 : Memref sig .tc .vmem S192x96 .f32) (harg24 : arg24.IsWhole) (arg25 : Memref sig .tc .vmem S192x1 .f32) (harg25 : arg25.IsWhole)
    (arg26 : Memref sig .tc .vmem S512x2048 .bf16) (harg26 : arg26.IsWhole) (arg27 : Memref sig .tc .vmem S32x2048 .bf16) (harg27 : arg27.IsWhole)
    (arg28 : Memref sig .tc .vmem S192x12 .f32) (harg28 : arg28.IsWhole) (arg29 : Memref sig .tc .vmem S768x192 .f32) (harg29 : arg29.IsWhole)
    (arg30 : Memref sig .tc .vmem S1x2048x768 .f32) (harg30 : arg30.IsWhole) (arg31 : Memref sig .tc .vmem S192x2048 .f32) (harg31 : arg31.IsWhole)
    (arg32 : Memref sig .tc .vmem S12x2048 .f32) (harg32 : arg32.IsWhole)
    (x0 : Vec F S2048x768 .f32) (x1 : Vec F S48x768 .f32) (x2 : Vec F S48x768 .f32) (x3 : Vec F S192x768 .f32) (x4 : Vec F S48x4 .f32)
    (x5 : Vec F S4x4 .f32) (x6 : Vec F S12x16 .f32) (x7 : Vec F S96x48 .f32) (x8 : Vec F S4x96 .f32) (x9 : Vec F S96x4 .f32) (x10 : Vec F S96x12 .f32)
    (x11 : Vec F S16x192 .f32) (x12 : Vec F S96x192 .f32) (x13 : Vec F S96x96 .f32) (x14 : Vec F S96x1 .f32) (x15 : Vec F S24x96 .f32)
    (x16 : Vec F S24x1 .f32) (x17 : Vec F S48x24 .f32) (x18 : Vec F S48x96 .f32) (x19 : Vec F S48x1 .f32) (x20 : Vec F S96x48 .f32)
    (x21 : Vec F S96x96 .f32) (x22 : Vec F S96x1 .f32) (x23 : Vec F S192x96 .f32) (x24 : Vec F S192x96 .f32) (x25 : Vec F S192x1 .f32)
    (x26 : Vec F S512x2048 .bf16) (x27 : Vec F S32x2048 .bf16) (x28 : Vec F S192x12 .f32) (x29 : Vec F S768x192 .f32) :
    View.canon (kernelRun0_A (F := F) c arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24 arg25 harg25 arg26 harg26 arg27 harg27 arg28 harg28 arg29 harg29 arg30 harg30 arg31 harg31 arg32 harg32 x0 x1 x2 x3 x4 x5 x6 x7 x8 x9 x10 x11 x12 x13 x14 x15 x16 x17 x18 x19 x20 x21 x22 x23 x24 x25 x26 x27 x28 x29).1
      = bodyOut x0 x1 x2 x3 x4 x5 x6 x7 x8 x9 x10 x11 x12 x13 x14 x15 x16 x17 x18 x19 x20 x21 x22 x23 x24 x25 x26 x27 x28 x29 := by
  have z2 : (![0, 0] : Fin 2 → ℕ) = fun _ => 0 := by funext i; fin_cases i <;> rfl
  have z3 : (![0, 0, 0] : Fin 3 → ℕ) = fun _ => 0 := by funext i; fin_cases i <;> rfl
  rw [stores]
  refine (View.canon_unit_zero (S := S1x2048x768) z3 _ _).trans ?_
  unfold bodyOut
  rw [scratch_read _ z2, scratch_read _ z2]
  simp only [rd_eq arg0 harg0 z2, rd_eq arg1 harg1 z2, rd_eq arg2 harg2 z2, rd_eq arg3 harg3 z2, rd_eq arg4 harg4 z2, rd_eq arg5 harg5 z2, rd_eq arg6 harg6 z2, rd_eq arg7 harg7 z2, rd_eq arg8 harg8 z2, rd_eq arg9 harg9 z2, rd_eq arg10 harg10 z2, rd_eq arg11 harg11 z2, rd_eq arg12 harg12 z2, rd_eq arg13 harg13 z2, rd_eq arg14 harg14 z2, rd_eq arg15 harg15 z2, rd_eq arg16 harg16 z2, rd_eq arg17 harg17 z2, rd_eq arg18 harg18 z2, rd_eq arg19 harg19 z2, rd_eq arg20 harg20 z2, rd_eq arg21 harg21 z2, rd_eq arg22 harg22 z2, rd_eq arg23 harg23 z2, rd_eq arg24 harg24 z2, rd_eq arg25 harg25 z2, rd_eq arg26 harg26 z2, rd_eq arg27 harg27 z2, rd_eq arg28 harg28 z2, rd_eq arg29 harg29 z2]

end Attn

end
-- ==== Proof.Tab.B4.lean ====
/- The constant table of the fourth bit's predecessors, entry by entry. -/
module

public import proofs.«01_k».proof.Proof.Gen.KernelIdeal

@[expose] public section

set_option maxRecDepth 16384
set_option Elab.async false

namespace Attn

open Idealize.ShloMosaic Cert.KernelIdeal

/-- A quarter of the table of fourth bit factor: which product of three bits it extends. -/
abbrev lit8Part (p : Fin 4) : Prop := ∀ n : Fin 4608, lit8 ⟨4608 * p.val + n.val, by omega⟩ = if ((4608 * p.val + n.val) % 96) = 8 * (((4608 * p.val + n.val) / 96) / 16) + ((4608 * p.val + n.val) / 96) % 8 then 0x3F800000#32 else 0#32

/-- The first quarter, by reading its words. -/
theorem lit8_part0 : lit8Part 0 := by decide +kernel
/-- The second quarter, by reading its words. -/
theorem lit8_part1 : lit8Part 1 := by decide +kernel
/-- The third quarter, by reading its words. -/
theorem lit8_part2 : lit8Part 2 := by decide +kernel
/-- The fourth quarter, by reading its words. -/
theorem lit8_part3 : lit8Part 3 := by decide +kernel

/-- The table of fourth bit factor: which product of three bits it extends. -/
theorem lit8_flat (n : Fin 18432) : lit8 n = if (n.val % 96) = 8 * ((n.val / 96) / 16) + (n.val / 96) % 8 then 0x3F800000#32 else 0#32 := by
  have parts : ∀ p : Fin 4, lit8Part p := by
    intro p; fin_cases p
    · exact lit8_part0
    · exact lit8_part1
    · exact lit8_part2
    · exact lit8_part3
  have hn : 4608 * (n.val / 4608) + n.val % 4608 = n.val := Nat.div_add_mod _ _
  have h := parts ⟨n.val / 4608, by omega⟩ ⟨n.val % 4608, Nat.mod_lt _ (by decide)⟩
  simp only [hn] at h
  exact h

end Attn

end
-- ==== Proof.Tab.C4.lean ====
/- The constant table of the fourth bit's signs, entry by entry. -/
module

public import proofs.«01_k».proof.Proof.Gen.KernelIdeal
public import proofs.«01_k».proof.Proof.Tab.B4

@[expose] public section

set_option maxRecDepth 16384
set_option Elab.async false

namespace Attn

open Idealize.ShloMosaic Cert.KernelIdeal

/-- A quarter of the table of fourth bit factor: sign of the fourth root. -/
abbrev lit9Part (p : Fin 4) : Prop := ∀ n : Fin 4608, lit9 ⟨4608 * p.val + n.val, by omega⟩ = if ((4608 * p.val + n.val) % 96) = 8 * (((4608 * p.val + n.val) / 96) / 16) + 3 then (if ((4608 * p.val + n.val) / 96) / 8 % 2 = 1 then 0x3F800000#32 else 0xBF800000#32) else 0#32

/-- The first quarter, by reading its words. -/
theorem lit9_part0 : lit9Part 0 := by decide +kernel
/-- The second quarter, by reading its words. -/
theorem lit9_part1 : lit9Part 1 := by decide +kernel
/-- The third quarter, by reading its words. -/
theorem lit9_part2 : lit9Part 2 := by decide +kernel
/-- The fourth quarter, by reading its words. -/
theorem lit9_part3 : lit9Part 3 := by decide +kernel

/-- The table of fourth bit factor: sign of the fourth root. -/
theorem lit9_flat (n : Fin 18432) : lit9 n = if (n.val % 96) = 8 * ((n.val / 96) / 16) + 3 then (if (n.val / 96) / 8 % 2 = 1 then 0x3F800000#32 else 0xBF800000#32) else 0#32 := by
  have parts : ∀ p : Fin 4, lit9Part p := by
    intro p; fin_cases p
    · exact lit9_part0
    · exact lit9_part1
    · exact lit9_part2
    · exact lit9_part3
  have hn : 4608 * (n.val / 4608) + n.val % 4608 = n.val := Nat.div_add_mod _ _
  have h := parts ⟨n.val / 4608, by omega⟩ ⟨n.val % 4608, Nat.mod_lt _ (by decide)⟩
  simp only [hn] at h
  exact h

end Attn

end
-- ==== Proof.Tab.Blk.lean ====
/- The constant table of the blocks of a head, entry by entry. -/
module

public import proofs.«01_k».proof.Proof.Gen.KernelIdeal
public import proofs.«01_k».proof.Proof.Tab.C4

@[expose] public section

set_option maxRecDepth 16384
set_option Elab.async false

namespace Attn

open Idealize.ShloMosaic Cert.KernelIdeal

/-- A quarter of the table of the blocks of eight rows by sixteen columns of one head. -/
abbrev lit16Part (p : Fin 4) : Prop := ∀ n : Fin 4608, lit16 ⟨4608 * p.val + n.val, by omega⟩ = if ((4608 * p.val + n.val) / 192) / 8 = ((4608 * p.val + n.val) % 192) / 16 then 0x3F800000#32 else 0#32

/-- The first quarter, by reading its words. -/
theorem lit16_part0 : lit16Part 0 := by decide +kernel
/-- The second quarter, by reading its words. -/
theorem lit16_part1 : lit16Part 1 := by decide +kernel
/-- The third quarter, by reading its words. -/
theorem lit16_part2 : lit16Part 2 := by decide +kernel
/-- The fourth quarter, by reading its words. -/
theorem lit16_part3 : lit16Part 3 := by decide +kernel

/-- The table of the blocks of eight rows by sixteen columns of one head. -/
theorem lit16_flat (n : Fin 18432) : lit16 n = if (n.val / 192) / 8 = (n.val % 192) / 16 then 0x3F800000#32 else 0#32 := by
  have parts : ∀ p : Fin 4, lit16Part p := by
    intro p; fin_cases p
    · exact lit16_part0
    · exact lit16_part1
    · exact lit16_part2
    · exact lit16_part3
  have hn : 4608 * (n.val / 4608) + n.val % 4608 = n.val := Nat.div_add_mod _ _
  have h := parts ⟨n.val / 4608, by omega⟩ ⟨n.val % 4608, Nat.mod_lt _ (by decide)⟩
  simp only [hn] at h
  exact h

end Attn

end
-- ==== Proof.Tab.SmallA.lean ====
/- Constant tables of the kernel, entry by entry: the first two bit factors and the short tables. -/
module

public import proofs.«01_k».proof.Proof.Gen.KernelIdeal

@[expose] public section

set_option maxRecDepth 16384
set_option Elab.async false

namespace Attn

open Idealize.ShloMosaic Cert.KernelIdeal

/-- The table of first bit factor: sign of the first root of the head. -/
theorem lit0_flat : ∀ n : Fin 2304, lit0 n = if (n.val % 96) = 8 * ((n.val / 96) / 2) then (if (n.val / 96) % 2 = 1 then 0x3F800000#32 else 0xBF800000#32) else 0#32 := by
  decide +kernel

/-- The table of first bit factor: offset. -/
theorem lit1_flat : ∀ n : Fin 24, lit1 n = if n.val % 2 = 0 then 0x3F800000#32 else 0#32 := by
  decide +kernel

/-- The table of second bit factor: which product of one bit it extends. -/
theorem lit2_flat : ∀ n : Fin 1152, lit2 n = if (n.val % 24) = 2 * ((n.val / 24) / 4) + (n.val / 24) % 2 then 0x3F800000#32 else 0#32 := by
  decide +kernel

/-- The table of second bit factor: sign of the second root. -/
theorem lit3_flat : ∀ n : Fin 4608, lit3 n = if (n.val % 96) = 8 * ((n.val / 96) / 4) + 1 then (if (n.val / 96) / 2 % 2 = 1 then 0x3F800000#32 else 0xBF800000#32) else 0#32 := by
  decide +kernel

/-- The table of second bit factor: offset. -/
theorem lit4_flat : ∀ n : Fin 48, lit4 n = if n.val / 2 % 2 = 0 then 0x3F800000#32 else 0#32 := by
  decide +kernel

/-- The table of third bit factor: offset. -/
theorem lit7_flat : ∀ n : Fin 96, lit7 n = if n.val / 4 % 2 = 0 then 0x3F800000#32 else 0#32 := by
  decide +kernel

/-- The table of fourth bit factor: offset. -/
theorem lit10_flat : ∀ n : Fin 192, lit10 n = if n.val / 8 % 2 = 0 then 0x3F800000#32 else 0#32 := by
  decide +kernel

/-- The table of the repetition of four columns along the heads. -/
theorem lit12_flat : ∀ n : Fin 384, lit12 n = if (n.val % 96) % 8 = (n.val / 96) then 0x3F800000#32 else 0#32 := by
  decide +kernel

/-- The table of the repetition of four rows along the heads. -/
theorem lit13_flat : ∀ n : Fin 384, lit13 n = if (n.val / 4) % 8 = (n.val % 4) then 0x3F800000#32 else 0#32 := by
  decide +kernel

/-- The table of the fifth row of each head. -/
theorem lit14_flat : ∀ n : Fin 1152, lit14 n = if (n.val / 12) / 8 = (n.val % 12) ∧ (n.val / 12) % 8 = 4 then 0x3F800000#32 else 0#32 := by
  decide +kernel

/-- The table of the fifth row of each head, as a column. -/
theorem lit18_flat : ∀ n : Fin 96, lit18 n = if n.val % 8 = 4 then 0x3F800000#32 else 0#32 := by
  decide +kernel

end Attn

end
-- ==== Proof.Tab.SmallB.lean ====
/- Constant tables of the kernel, entry by entry: the third bit factor and the repetition of a head along its rows. -/
module

public import proofs.«01_k».proof.Proof.Gen.KernelIdeal
public import proofs.«01_k».proof.Proof.Tab.SmallA

@[expose] public section

set_option maxRecDepth 16384
set_option Elab.async false

namespace Attn

open Idealize.ShloMosaic Cert.KernelIdeal

/-- The table of third bit factor: which product of two bits it extends. -/
theorem lit5_flat : ∀ n : Fin 4608, lit5 n = if (n.val % 48) = 4 * ((n.val / 48) / 8) + (n.val / 48) % 4 then 0x3F800000#32 else 0#32 := by
  decide +kernel

/-- The table of third bit factor: sign of the third root. -/
theorem lit6_flat : ∀ n : Fin 9216, lit6 n = if (n.val % 96) = 8 * ((n.val / 96) / 8) + 2 then (if (n.val / 96) / 4 % 2 = 1 then 0x3F800000#32 else 0xBF800000#32) else 0#32 := by
  decide +kernel

/-- The table of the repetition of a head along its sixteen rows. -/
theorem lit20_flat : ∀ n : Fin 2304, lit20 n = if (n.val / 12) / 16 = (n.val % 12) then 0x3F800000#32 else 0#32 := by
  decide +kernel

end Attn

end
-- ==== Proof.Tab.SmallC.lean ====
/- Constant tables of the kernel, entry by entry: padding, repetition, and the blocks of a head. -/
module

public import proofs.«01_k».proof.Proof.Gen.KernelIdeal
public import proofs.«01_k».proof.Proof.Tab.SmallB

@[expose] public section

set_option maxRecDepth 16384
set_option Elab.async false

namespace Attn

open Idealize.ShloMosaic Cert.KernelIdeal

/-- The table of the padding of four channels of a head to eight rows. -/
theorem lit11_flat : ∀ n : Fin 4608, lit11 n = if (n.val / 48) / 8 = (n.val % 48) / 4 ∧ (n.val / 48) % 8 = (n.val % 48) % 4 then 0x3F800000#32 else 0#32 := by
  decide +kernel

/-- The table of the repetition of sixteen columns along the heads. -/
theorem lit15_flat : ∀ n : Fin 3072, lit15 n = if (n.val % 192) % 16 = (n.val / 192) then 0x3F800000#32 else 0#32 := by
  decide +kernel

/-- The table of the blocks of eight rows by eight columns of one head. -/
theorem lit17_flat : ∀ n : Fin 9216, lit17 n = if (n.val / 96) / 8 = (n.val % 96) / 8 then 0x3F800000#32 else 0#32 := by
  decide +kernel

end Attn

end
-- ==== Proof.Tab.Mask0.lean ====
/- The head mask of the queries, entry by entry: its rows 0 to 7. -/
module

public import proofs.«01_k».proof.Proof.Gen.KernelIdeal
public import proofs.«01_k».proof.Proof.Tab.SmallC

@[expose] public section

set_option maxRecDepth 16384
set_option Elab.async false

namespace Attn

open Idealize.ShloMosaic Cert.KernelIdeal

/-- Two rows of the mask: one on the columns of the head the row belongs to and zero elsewhere. -/
abbrev maskPart (p : Fin 16) : Prop :=
  ∀ n : Fin 4096, lit19 ⟨4096 * p.val + n.val, by omega⟩ = if n.val % 2048 / 512 = p.val / 4 then 0x3F80#16 else 0#16

/-- Rows 0 and 1. -/
theorem mask_part0 : maskPart 0 := by decide +kernel
/-- Rows 2 and 3. -/
theorem mask_part1 : maskPart 1 := by decide +kernel
/-- Rows 4 and 5. -/
theorem mask_part2 : maskPart 2 := by decide +kernel
/-- Rows 6 and 7. -/
theorem mask_part3 : maskPart 3 := by decide +kernel

end Attn

end
-- ==== Proof.Tab.Mask1.lean ====
/- The head mask of the queries, entry by entry: its rows 8 to 15. -/
module

public import proofs.«01_k».proof.Proof.Gen.KernelIdeal
public import proofs.«01_k».proof.Proof.Tab.Mask0

@[expose] public section

set_option maxRecDepth 16384
set_option Elab.async false

namespace Attn

open Idealize.ShloMosaic Cert.KernelIdeal

/-- Rows 8 and 9. -/
theorem mask_part4 : maskPart 4 := by decide +kernel
/-- Rows 10 and 11. -/
theorem mask_part5 : maskPart 5 := by decide +kernel
/-- Rows 12 and 13. -/
theorem mask_part6 : maskPart 6 := by decide +kernel
/-- Rows 14 and 15. -/
theorem mask_part7 : maskPart 7 := by decide +kernel

end Attn

end
-- ==== Proof.Tab.Mask2.lean ====
/- The head mask of the queries, entry by entry: its rows 16 to 23. -/
module

public import proofs.«01_k».proof.Proof.Gen.KernelIdeal
public import proofs.«01_k».proof.Proof.Tab.Mask1

@[expose] public section

set_option maxRecDepth 16384
set_option Elab.async false

namespace Attn

open Idealize.ShloMosaic Cert.KernelIdeal

/-- Rows 16 and 17. -/
theorem mask_part8 : maskPart 8 := by decide +kernel
/-- Rows 18 and 19. -/
theorem mask_part9 : maskPart 9 := by decide +kernel
/-- Rows 20 and 21. -/
theorem mask_part10 : maskPart 10 := by decide +kernel
/-- Rows 22 and 23. -/
theorem mask_part11 : maskPart 11 := by decide +kernel

end Attn

end
-- ==== Proof.Tab.Mask3.lean ====
/- The head mask of the queries, entry by entry: its rows 24 to 31. -/
module

public import proofs.«01_k».proof.Proof.Gen.KernelIdeal
public import proofs.«01_k».proof.Proof.Tab.Mask2

@[expose] public section

set_option maxRecDepth 16384
set_option Elab.async false

namespace Attn

open Idealize.ShloMosaic Cert.KernelIdeal

/-- Rows 24 and 25. -/
theorem mask_part12 : maskPart 12 := by decide +kernel
/-- Rows 26 and 27. -/
theorem mask_part13 : maskPart 13 := by decide +kernel
/-- Rows 28 and 29. -/
theorem mask_part14 : maskPart 14 := by decide +kernel
/-- Rows 30 and 31. -/
theorem mask_part15 : maskPart 15 := by decide +kernel

end Attn

end
-- ==== Proof.Tab.Mask.lean ====
/- The head mask of the queries, entry by entry: all its rows put together. -/
module

public import proofs.«01_k».proof.Proof.Gen.KernelIdeal
public import proofs.«01_k».proof.Proof.Tab.Mask3

@[expose] public section

set_option maxRecDepth 16384

namespace Attn

open Idealize.ShloMosaic Cert.KernelIdeal

/-- What holds of each of sixteen values holds of all of them. -/
theorem forall_fin16 (P : Fin 16 → Prop) (h0 : P 0) (h1 : P 1) (h2 : P 2) (h3 : P 3) (h4 : P 4) (h5 : P 5) (h6 : P 6) (h7 : P 7)
    (h8 : P 8) (h9 : P 9) (h10 : P 10) (h11 : P 11) (h12 : P 12) (h13 : P 13) (h14 : P 14) (h15 : P 15) (p : Fin 16) : P p := by
  fin_cases p <;> assumption

/-- The whole mask: row `r` belongs to head `r / 8` of the group. -/
theorem lit19_flat (n : Fin 65536) : lit19 n = if n.val % 2048 / 512 = n.val / 2048 / 8 then 0x3F80#16 else 0#16 := by
  have parts : ∀ p : Fin 16, maskPart p := forall_fin16 maskPart mask_part0 mask_part1 mask_part2 mask_part3 mask_part4 mask_part5
    mask_part6 mask_part7 mask_part8 mask_part9 mask_part10 mask_part11 mask_part12 mask_part13 mask_part14 mask_part15
  have hn : 4096 * (n.val / 4096) + n.val % 4096 = n.val := Nat.div_add_mod _ _
  have h := parts ⟨n.val / 4096, by omega⟩ ⟨n.val % 4096, Nat.mod_lt _ (by decide)⟩
  simp only [hn] at h
  rw [h]
  have e1 : n.val % 4096 % 2048 = n.val % 2048 := by omega
  have e2 : n.val / 4096 / 4 = n.val / 2048 / 8 := by omega
  rw [e1, e2]

end Attn

end
-- ==== Proof.TableDefs.lean ====
/- The kernel's constant tables over the extended reals, each as a function of its row and column. A row of the
   padded arrays is `8 h + r` for head `h` and `r < 8`; a row of the values is `16 h + d`. -/
module

public import proofs.«01_k».proof.Proof.Gen.KernelIdeal
public import Idealize.ShloMosaic.Lib.Pointwise

@[expose] public section

noncomputable section

namespace Attn

open Idealize.ShloMosaic Cert.KernelIdeal

/-- Four channels of each head padded to eight rows. -/
def PAD : FVec Ideal S96x48 .f32 := fun j =>
  if (j 0).val / 8 = (j 1).val / 4 ∧ (j 0).val % 8 = (j 1).val % 4 then (1 : EReal) else 0
/-- Four columns repeated along the heads. -/
def TILE4 : FVec Ideal S4x96 .f32 := fun j => if (j 1).val % 8 = (j 0).val then (1 : EReal) else 0
/-- Four rows repeated along the heads. -/
def R8 : FVec Ideal S96x4 .f32 := fun j => if (j 0).val % 8 = (j 1).val then (1 : EReal) else 0
/-- The fifth row of each head. -/
def SEL4 : FVec Ideal S96x12 .f32 := fun j =>
  if (j 0).val / 8 = (j 1).val ∧ (j 0).val % 8 = 4 then (1 : EReal) else 0
/-- Sixteen columns repeated along the heads. -/
def TILE16 : FVec Ideal S16x192 .f32 := fun j => if (j 1).val % 16 = (j 0).val then (1 : EReal) else 0
/-- The blocks of one head, eight rows by sixteen columns. -/
def BLK16 : FVec Ideal S96x192 .f32 := fun j => if (j 0).val / 8 = (j 1).val / 16 then (1 : EReal) else 0
/-- The blocks of one head, eight rows by eight columns. -/
def G96 : FVec Ideal S96x96 .f32 := fun j => if (j 0).val / 8 = (j 1).val / 8 then (1 : EReal) else 0
/-- The fifth row of each head, as a column. -/
def ONEC : FVec Ideal S96x1 .f32 := fun j => if (j 0).val % 8 = 4 then (1 : EReal) else 0
/-- The bit factors: signs and offsets of each bit, and the product of the earlier bits that it extends. -/
def C1 : FVec Ideal S24x96 .f32 := fun j =>
  if (j 1).val = 8 * ((j 0).val / 2) then (if (j 0).val % 2 = 1 then (1 : EReal) else -1) else 0
def O1 : FVec Ideal S24x1 .f32 := fun j => if (j 0).val % 2 = 0 then (1 : EReal) else 0
def B2 : FVec Ideal S48x24 .f32 := fun j =>
  if (j 1).val = 2 * ((j 0).val / 4) + (j 0).val % 2 then (1 : EReal) else 0
def C2 : FVec Ideal S48x96 .f32 := fun j =>
  if (j 1).val = 8 * ((j 0).val / 4) + 1 then (if (j 0).val / 2 % 2 = 1 then (1 : EReal) else -1) else 0
def O2 : FVec Ideal S48x1 .f32 := fun j => if (j 0).val / 2 % 2 = 0 then (1 : EReal) else 0
def B3 : FVec Ideal S96x48 .f32 := fun j =>
  if (j 1).val = 4 * ((j 0).val / 8) + (j 0).val % 4 then (1 : EReal) else 0
def C3 : FVec Ideal S96x96 .f32 := fun j =>
  if (j 1).val = 8 * ((j 0).val / 8) + 2 then (if (j 0).val / 4 % 2 = 1 then (1 : EReal) else -1) else 0
def O3 : FVec Ideal S96x1 .f32 := fun j => if (j 0).val / 4 % 2 = 0 then (1 : EReal) else 0
def B4 : FVec Ideal S192x96 .f32 := fun j =>
  if (j 1).val = 8 * ((j 0).val / 16) + (j 0).val % 8 then (1 : EReal) else 0
def C4 : FVec Ideal S192x96 .f32 := fun j =>
  if (j 1).val = 8 * ((j 0).val / 16) + 3 then (if (j 0).val / 8 % 2 = 1 then (1 : EReal) else -1) else 0
def O4 : FVec Ideal S192x1 .f32 := fun j => if (j 0).val / 8 % 2 = 0 then (1 : EReal) else 0
/-- In a group of four heads, the columns of head `a` on its eight rows. -/
def QMASK : FVec Ideal S32x2048 .bf16 := fun j => if (j 0).val / 8 = (j 1).val / 512 then (1 : EReal) else 0
/-- A head repeated along its sixteen rows. -/
def EXPD : FVec Ideal S192x12 .f32 := fun j => if (j 0).val / 16 = (j 1).val then (1 : EReal) else 0
/-- The causal mask of a diagonal block, four heads side by side: one below the diagonal. -/
def AMASK : FVec Ideal S512x2048 .bf16 := fun j => if (j 1).val % 512 < (j 0).val then (1 : EReal) else 0

end Attn

end
-- ==== Proof.Tables.lean ====
/- The kernel's constant tables over the extended reals: each is a table of zeros and ones (or signs), written as a
   function of its row and column, and the words printed for it are exactly that function. -/
module

public import proofs.«01_k».proof.Proof.Tab.B4
public import proofs.«01_k».proof.Proof.Tab.C4
public import proofs.«01_k».proof.Proof.Tab.Blk
public import proofs.«01_k».proof.Proof.Tab.SmallA
public import proofs.«01_k».proof.Proof.Tab.SmallB
public import proofs.«01_k».proof.Proof.Tab.SmallC
public import proofs.«01_k».proof.Proof.Tab.Mask
public import proofs.«01_k».proof.Proof.TableDefs

@[expose] public section

set_option maxRecDepth 16384

noncomputable section

namespace Attn

open Idealize.ShloMosaic Cert.KernelIdeal

/-- A word that is one or zero, read as an extended real. -/
theorem ofBits_oh (p : Prop) [Decidable p] :
    FloatOps.ofBits (F := Ideal) .f32 (if p then 0x3F800000#32 else 0#32) = if p then (1 : EReal) else 0 := by
  split
  · exact Ideal.ofBits_one_f32
  · exact Ideal.ofBits_zero_f32

/-- The same for the shorter words. -/
theorem ofBits_oh16 (p : Prop) [Decidable p] :
    FloatOps.ofBits (F := Ideal) .bf16 (if p then 0x3F80#16 else 0#16) = if p then (1 : EReal) else 0 := by
  split
  · exact Ideal.ofBits_one_bf16
  · exact Ideal.ofBits_zero_bf16

/-- A word that is one, minus one or zero, read as an extended real. -/
theorem ofBits_sg (p q : Prop) [Decidable p] [Decidable q] :
    FloatOps.ofBits (F := Ideal) .f32 (if p then (if q then 0x3F800000#32 else 0xBF800000#32) else 0#32)
      = if p then (if q then (1 : EReal) else -1) else 0 := by
  split
  · split
    · exact Ideal.ofBits_one_f32
    · show Ideal.ofBits .f32 0xBF800000#32 = _
      simp [Ideal.ofBits, Ideal.ieee]
      rw [← EReal.coe_mul]
      norm_num
  · exact Ideal.ofBits_zero_f32

/-- The flat position of an entry of a table with `C` columns. -/
theorem flat_val {R C : ℕ} (a : Fin R) (b : Fin C) :
    ((⟨2, ![R, C]⟩ : Shape).rowMajor (ix2 a b)).val = a.val * C + b.val :=
  rowMajor_val2 (ix2 a b) C rfl

theorem row_of {C : ℕ} (a : ℕ) (b : Fin C) : (a * C + b.val) / C = a := by
  rw [Nat.mul_comm, Nat.mul_add_div (by have := b.isLt; omega), Nat.div_eq_of_lt b.isLt, Nat.add_zero]

theorem col_of {C : ℕ} (a : ℕ) (b : Fin C) : (a * C + b.val) % C = b.val := by
  rw [Nat.mul_comm, Nat.mul_add_mod, Nat.mod_eq_of_lt b.isLt]

theorem col_val {b : Fin 1} (a : ℕ) : a * 1 + b.val = a := by
  have := b.isLt; omega

/-- A table is the function of row and column that its words give at each flat position. -/
theorem table_eq {φ : FTy} {R C : ℕ} (L : Fin (⟨2, ![R, C]⟩ : Shape).numel → BitVec φ.bits) (g : FVec Ideal ⟨2, ![R, C]⟩ φ)
    (h : ∀ (a : Fin R) (b : Fin C) (hk : a.val * C + b.val < (⟨2, ![R, C]⟩ : Shape).numel),
      FloatOps.ofBits (F := Ideal) φ (L ⟨a.val * C + b.val, hk⟩) = g (ix2 a b)) :
    (fun i => FloatOps.ofBits (F := Ideal) φ (L ((⟨2, ![R, C]⟩ : Shape).rowMajor i))) = g := by
  funext i
  have hk := flat_val (i 0) (i 1) ▸ ((⟨2, ![R, C]⟩ : Shape).rowMajor (ix2 (i 0) (i 1))).isLt
  rw [eq_ix2 i]
  exact (congrArg (fun n => FloatOps.ofBits (F := Ideal) φ (L n)) (Fin.ext (flat_val (i 0) (i 1)))).trans (h (i 0) (i 1) hk)

/-! Each printed table is the function of row and column stated for it. -/

theorem lit0_C1 : (fun i => FloatOps.ofBits (F := Ideal) .f32 (lit0 (S24x96.rowMajor i))) = C1 :=
  table_eq (φ := .f32) (R := 24) (C := 96) lit0 C1 fun a b hk => (congrArg (FloatOps.ofBits (F := Ideal) .f32) (lit0_flat ⟨_, hk⟩)).trans (by
    simp only [row_of, col_of]; exact ofBits_sg _ _)

theorem lit1_O1 : (fun i => FloatOps.ofBits (F := Ideal) .f32 (lit1 (S24x1.rowMajor i))) = O1 :=
  table_eq (φ := .f32) (R := 24) (C := 1) lit1 O1 fun a b hk => (congrArg (FloatOps.ofBits (F := Ideal) .f32) (lit1_flat ⟨_, hk⟩)).trans (by
    simp only [col_val]; exact ofBits_oh _)

theorem lit2_B2 : (fun i => FloatOps.ofBits (F := Ideal) .f32 (lit2 (S48x24.rowMajor i))) = B2 :=
  table_eq (φ := .f32) (R := 48) (C := 24) lit2 B2 fun a b hk => (congrArg (FloatOps.ofBits (F := Ideal) .f32) (lit2_flat ⟨_, hk⟩)).trans (by
    simp only [row_of, col_of]; exact ofBits_oh _)

theorem lit3_C2 : (fun i => FloatOps.ofBits (F := Ideal) .f32 (lit3 (S48x96.rowMajor i))) = C2 :=
  table_eq (φ := .f32) (R := 48) (C := 96) lit3 C2 fun a b hk => (congrArg (FloatOps.ofBits (F := Ideal) .f32) (lit3_flat ⟨_, hk⟩)).trans (by
    simp only [row_of, col_of]; exact ofBits_sg _ _)

theorem lit4_O2 : (fun i => FloatOps.ofBits (F := Ideal) .f32 (lit4 (S48x1.rowMajor i))) = O2 :=
  table_eq (φ := .f32) (R := 48) (C := 1) lit4 O2 fun a b hk => (congrArg (FloatOps.ofBits (F := Ideal) .f32) (lit4_flat ⟨_, hk⟩)).trans (by
    simp only [col_val]; exact ofBits_oh _)

theorem lit5_B3 : (fun i => FloatOps.ofBits (F := Ideal) .f32 (lit5 (S96x48.rowMajor i))) = B3 :=
  table_eq (φ := .f32) (R := 96) (C := 48) lit5 B3 fun a b hk => (congrArg (FloatOps.ofBits (F := Ideal) .f32) (lit5_flat ⟨_, hk⟩)).trans (by
    simp only [row_of, col_of]; exact ofBits_oh _)

theorem lit6_C3 : (fun i => FloatOps.ofBits (F := Ideal) .f32 (lit6 (S96x96.rowMajor i))) = C3 :=
  table_eq (φ := .f32) (R := 96) (C := 96) lit6 C3 fun a b hk => (congrArg (FloatOps.ofBits (F := Ideal) .f32) (lit6_flat ⟨_, hk⟩)).trans (by
    simp only [row_of, col_of]; exact ofBits_sg _ _)

theorem lit7_O3 : (fun i => FloatOps.ofBits (F := Ideal) .f32 (lit7 (S96x1.rowMajor i))) = O3 :=
  table_eq (φ := .f32) (R := 96) (C := 1) lit7 O3 fun a b hk => (congrArg (FloatOps.ofBits (F := Ideal) .f32) (lit7_flat ⟨_, hk⟩)).trans (by
    simp only [col_val]; exact ofBits_oh _)

theorem lit8_B4 : (fun i => FloatOps.ofBits (F := Ideal) .f32 (lit8 (S192x96.rowMajor i))) = B4 :=
  table_eq (φ := .f32) (R := 192) (C := 96) lit8 B4 fun a b hk => (congrArg (FloatOps.ofBits (F := Ideal) .f32) (lit8_flat ⟨_, hk⟩)).trans (by
    simp only [row_of, col_of]; exact ofBits_oh _)

theorem lit9_C4 : (fun i => FloatOps.ofBits (F := Ideal) .f32 (lit9 (S192x96.rowMajor i))) = C4 :=
  table_eq (φ := .f32) (R := 192) (C := 96) lit9 C4 fun a b hk => (congrArg (FloatOps.ofBits (F := Ideal) .f32) (lit9_flat ⟨_, hk⟩)).trans (by
    simp only [row_of, col_of]; exact ofBits_sg _ _)

theorem lit10_O4 : (fun i => FloatOps.ofBits (F := Ideal) .f32 (lit10 (S192x1.rowMajor i))) = O4 :=
  table_eq (φ := .f32) (R := 192) (C := 1) lit10 O4 fun a b hk => (congrArg (FloatOps.ofBits (F := Ideal) .f32) (lit10_flat ⟨_, hk⟩)).trans (by
    simp only [col_val]; exact ofBits_oh _)

theorem lit11_PAD : (fun i => FloatOps.ofBits (F := Ideal) .f32 (lit11 (S96x48.rowMajor i))) = PAD :=
  table_eq (φ := .f32) (R := 96) (C := 48) lit11 PAD fun a b hk => (congrArg (FloatOps.ofBits (F := Ideal) .f32) (lit11_flat ⟨_, hk⟩)).trans (by
    simp only [row_of, col_of]; exact ofBits_oh _)

theorem lit12_TILE4 : (fun i => FloatOps.ofBits (F := Ideal) .f32 (lit12 (S4x96.rowMajor i))) = TILE4 :=
  table_eq (φ := .f32) (R := 4) (C := 96) lit12 TILE4 fun a b hk => (congrArg (FloatOps.ofBits (F := Ideal) .f32) (lit12_flat ⟨_, hk⟩)).trans (by
    simp only [row_of, col_of]; exact ofBits_oh _)

theorem lit13_R8 : (fun i => FloatOps.ofBits (F := Ideal) .f32 (lit13 (S96x4.rowMajor i))) = R8 :=
  table_eq (φ := .f32) (R := 96) (C := 4) lit13 R8 fun a b hk => (congrArg (FloatOps.ofBits (F := Ideal) .f32) (lit13_flat ⟨_, hk⟩)).trans (by
    simp only [row_of, col_of]; exact ofBits_oh _)

theorem lit14_SEL4 : (fun i => FloatOps.ofBits (F := Ideal) .f32 (lit14 (S96x12.rowMajor i))) = SEL4 :=
  table_eq (φ := .f32) (R := 96) (C := 12) lit14 SEL4 fun a b hk => (congrArg (FloatOps.ofBits (F := Ideal) .f32) (lit14_flat ⟨_, hk⟩)).trans (by
    simp only [row_of, col_of]; exact ofBits_oh _)

theorem lit15_TILE16 : (fun i => FloatOps.ofBits (F := Ideal) .f32 (lit15 (S16x192.rowMajor i))) = TILE16 :=
  table_eq (φ := .f32) (R := 16) (C := 192) lit15 TILE16 fun a b hk => (congrArg (FloatOps.ofBits (F := Ideal) .f32) (lit15_flat ⟨_, hk⟩)).trans (by
    simp only [row_of, col_of]; exact ofBits_oh _)

theorem lit16_BLK16 : (fun i => FloatOps.ofBits (F := Ideal) .f32 (lit16 (S96x192.rowMajor i))) = BLK16 :=
  table_eq (φ := .f32) (R := 96) (C := 192) lit16 BLK16 fun a b hk => (congrArg (FloatOps.ofBits (F := Ideal) .f32) (lit16_flat ⟨_, hk⟩)).trans (by
    simp only [row_of, col_of]; exact ofBits_oh _)

theorem lit17_G96 : (fun i => FloatOps.ofBits (F := Ideal) .f32 (lit17 (S96x96.rowMajor i))) = G96 :=
  table_eq (φ := .f32) (R := 96) (C := 96) lit17 G96 fun a b hk => (congrArg (FloatOps.ofBits (F := Ideal) .f32) (lit17_flat ⟨_, hk⟩)).trans (by
    simp only [row_of, col_of]; exact ofBits_oh _)

theorem lit18_ONEC : (fun i => FloatOps.ofBits (F := Ideal) .f32 (lit18 (S96x1.rowMajor i))) = ONEC :=
  table_eq (φ := .f32) (R := 96) (C := 1) lit18 ONEC fun a b hk => (congrArg (FloatOps.ofBits (F := Ideal) .f32) (lit18_flat ⟨_, hk⟩)).trans (by
    simp only [col_val]; exact ofBits_oh _)

theorem lit20_EXPD : (fun i => FloatOps.ofBits (F := Ideal) .f32 (lit20 (S192x12.rowMajor i))) = EXPD :=
  table_eq (φ := .f32) (R := 192) (C := 12) lit20 EXPD fun a b hk => (congrArg (FloatOps.ofBits (F := Ideal) .f32) (lit20_flat ⟨_, hk⟩)).trans (by
    simp only [row_of, col_of]; exact ofBits_oh _)

/-- The head mask, put together from its four groups of rows. -/
theorem lit19_QMASK : (fun i => FloatOps.ofBits (F := Ideal) .bf16 (lit19 (S32x2048.rowMajor i))) = QMASK :=
  table_eq (φ := .bf16) (R := 32) (C := 2048) lit19 QMASK fun a b hk => (congrArg (FloatOps.ofBits (F := Ideal) .bf16) (lit19_flat ⟨_, hk⟩)).trans (by
    simp only [row_of, col_of]
    exact (ofBits_oh16 _).trans (if_congr eq_comm rfl rfl))

end Attn

end
-- ==== Proof.Scalars.lean ====
/- Facts about extended reals that the comparison needs: which results are real numbers, the
   normalisation of a short vector, the two exponentials, sums against a zero-one table, sums cut at
   a position, and the two ways of normalising a softmax row. -/
module

public import Idealize.ShloMosaic.PureOps.Ideal
public import Idealize.ShloMosaic.Lib.Pointwise

@[expose] public section

noncomputable section

namespace Attn

open Idealize.ShloMosaic

/-- An extended real that is a real number. -/
def IsR (x : EReal) : Prop := ∃ r : ℝ, x = (r : EReal)

theorem IsR.coe (r : ℝ) : IsR (r : EReal) := ⟨r, rfl⟩
theorem IsR.zero : IsR 0 := ⟨0, rfl⟩
theorem IsR.one : IsR 1 := ⟨1, rfl⟩

theorem IsR.of_ne {x : EReal} (h1 : x ≠ ⊤) (h2 : x ≠ ⊥) : IsR x := ⟨x.toReal, (EReal.coe_toReal h1 h2).symm⟩

theorem IsR.ne_top {x : EReal} (h : IsR x) : x ≠ ⊤ := by
  obtain ⟨r, rfl⟩ := h; exact EReal.coe_ne_top r

theorem IsR.ne_bot {x : EReal} (h : IsR x) : x ≠ ⊥ := by
  obtain ⟨r, rfl⟩ := h; exact EReal.coe_ne_bot r

theorem IsR.add {x y : EReal} (hx : IsR x) (hy : IsR y) : IsR (x + y) := by
  obtain ⟨a, rfl⟩ := hx; obtain ⟨b, rfl⟩ := hy; exact ⟨a + b, (EReal.coe_add a b).symm⟩

theorem IsR.sub {x y : EReal} (hx : IsR x) (hy : IsR y) : IsR (x - y) := by
  obtain ⟨a, rfl⟩ := hx; obtain ⟨b, rfl⟩ := hy; exact ⟨a - b, (EReal.coe_sub a b).symm⟩

theorem IsR.mul {x y : EReal} (hx : IsR x) (hy : IsR y) : IsR (x * y) := by
  obtain ⟨a, rfl⟩ := hx; obtain ⟨b, rfl⟩ := hy; exact ⟨a * b, (EReal.coe_mul a b).symm⟩

/-- A finite sum of real numbers is a real number. -/
theorem IsR.sum {ι : Type} (s : Finset ι) (f : ι → EReal) (h : ∀ i, IsR (f i)) : IsR (∑ i ∈ s, f i) :=
  Finset.sum_induction f IsR (fun _ _ => IsR.add) IsR.zero (fun i _ => h i)

/-! ## Normalising a short vector -/

/-- The small positive number that bounds a norm from below. -/
def eps : EReal := Ideal.ofBits .f32 0x2B8CBCCC#32

/-- It is a positive real number. -/
theorem eps_pos : ∃ e : ℝ, 0 < e ∧ eps = (e : EReal) := by
  refine ⟨(2 ^ 23 + 834764 : ℕ) * (2 : ℝ) ^ (-63 : ℤ), by positivity, ?_⟩
  simp [eps, Ideal.ofBits, Ideal.ieee]

/-- One entry of a vector divided by the vector's norm, the norm not below `eps`;
    `n2` is the sum of the squares. -/
def nrm (a n2 : EReal) : EReal := Ideal.div a (max (Ideal.sqrt n2) eps)

/-- The bound is never zero. -/
theorem max_eps_ne_zero (y : EReal) : max y eps ≠ 0 := by
  obtain ⟨e, he, hE⟩ := eps_pos
  have h : (0 : EReal) < max y eps := lt_max_of_lt_right (by rw [hE]; exact_mod_cast he)
  exact h.ne'

/-- A zero entry stays zero. -/
theorem nrm_zero (n2 : EReal) : nrm 0 n2 = 0 := by
  rw [nrm, Ideal.div, if_neg (max_eps_ne_zero _), zero_mul]

/-- Against an infinite sum of squares every entry becomes zero. -/
theorem nrm_top (a : EReal) : nrm a ⊤ = 0 := by
  obtain ⟨e, -, hE⟩ := eps_pos
  have h : max (Ideal.sqrt ⊤) eps = ⊤ := by simp
  rw [nrm, h, Ideal.div, if_neg (by simp), EReal.inv_top, mul_zero]

theorem sq_nonneg' (x : EReal) : 0 ≤ x * x := by
  induction x using EReal.rec with
  | bot => simp
  | top => simp
  | coe r => rw [← EReal.coe_mul]; exact_mod_cast mul_self_nonneg r

/-- A normalised entry is a real number, whatever the vector holds. -/
theorem nrm_isR {n : ℕ} (a : Fin n → EReal) (d : Fin n) : IsR (nrm (a d) (∑ j, a j * a j)) := by
  have hle : a d * a d ≤ ∑ j, a j * a j :=
    Finset.single_le_sum (f := fun j => a j * a j) (fun j _ => sq_nonneg' _) (Finset.mem_univ d)
  have h0 : 0 ≤ ∑ j, a j * a j := Finset.sum_nonneg fun j _ => sq_nonneg' _
  generalize (∑ j, a j * a j) = n2 at hle h0
  generalize a d = x at hle
  induction n2 using EReal.rec with
  | bot => simp at h0
  | top => rw [nrm_top]; exact IsR.zero
  | coe r =>
    have hr : ¬ r < 0 := not_lt.mpr (by exact_mod_cast h0)
    obtain ⟨e, he, hE⟩ := eps_pos
    induction x using EReal.rec with
    | bot => simp at hle
    | top => simp at hle
    | coe x =>
      rw [nrm, Ideal.sqrt_coe, if_neg hr, hE, ← EReal.coe_strictMono.monotone.map_max,
        Ideal.div_coe (lt_max_of_lt_right he).ne']
      exact (IsR.coe _).mul (IsR.coe _)

/-! ## The two exponentials, the logistic function -/

/-- Two to the power `x / log 2` is `e` to the power `x`. -/
theorem exp2_eq_exp (x : ℝ) : Ideal.exp2 ((x * (Real.log 2)⁻¹ : ℝ) : EReal) = ((Real.exp x : ℝ) : EReal) := by
  have h2 : Real.log 2 ≠ 0 := (Real.log_pos (by norm_num)).ne'
  rw [Ideal.exp2_coe]
  congr 1
  show (2 : ℝ) ^ (x * (Real.log 2)⁻¹) = _
  rw [Real.rpow_def_of_pos (by norm_num)]
  congr 1
  field_simp

/-- The logistic function gives a real number at every extended real. -/
theorem logistic_isR (x : EReal) : IsR (Ideal.logistic x) := by
  induction x using EReal.rec with
  | bot => rw [Ideal.logistic_bot]; exact IsR.zero
  | top => rw [Ideal.logistic_top]; exact IsR.one
  | coe r => rw [Ideal.logistic_coe]; exact IsR.coe _

/-! ## Sums against a zero-one table -/

/-- A sum against the table of one index picks that entry. -/
theorem sum_pick {n : ℕ} (f : Fin n → EReal) (k : Fin n) (c : Fin n → EReal)
    (h1 : c k = 1) (h0 : ∀ j, j ≠ k → c j = 0) : ∑ j, c j * f j = f k := by
  rw [Finset.sum_eq_single k (fun j _ hj => by rw [h0 j hj, zero_mul]) (fun h => absurd (Finset.mem_univ k) h),
    h1, one_mul]

/-- A sum all of whose table entries are zero is zero. -/
theorem sum_none {n : ℕ} (f : Fin n → EReal) (c : Fin n → EReal) (h0 : ∀ j, c j = 0) : ∑ j, c j * f j = 0 :=
  Finset.sum_eq_zero fun j _ => by rw [h0 j, zero_mul]

/-- A sum whose terms vanish off one block of a longer index is the sum over the block. -/
theorem sum_block {n b : ℕ} (F : Fin n → EReal) (o : ℕ) (ho : o + b ≤ n)
    (h0 : ∀ j : Fin n, ¬ (o ≤ j.val ∧ j.val < o + b) → F j = 0) :
    ∑ j, F j = ∑ r : Fin b, F ⟨o + r.val, by omega⟩ := by
  symm
  refine Finset.sum_of_injOn (fun r : Fin b => (⟨o + r.val, by omega⟩ : Fin n)) ?_ ?_ ?_ ?_
  · intro a _ b _ h; simpa [Fin.ext_iff] using h
  · intro a _; exact Finset.mem_univ _
  · intro j _ hj
    refine h0 j fun hb => hj ⟨⟨j.val - o, by omega⟩, by simp, ?_⟩
    exact Fin.ext (by show o + (j.val - o) = j.val; omega)
  · intro a _; rfl

/-- A sum over eight entries the last four of which vanish is the sum over the first four. -/
theorem sum_eight_four (F : Fin 8 → EReal) (h : ∀ r : Fin 8, 4 ≤ r.val → F r = 0) :
    ∑ r, F r = ∑ r : Fin 4, F ⟨r.val, by omega⟩ := by
  rw [Fin.sum_univ_eight, Fin.sum_univ_four, h 4 (by decide), h 5 (by decide), h 6 (by decide), h 7 (by decide)]
  simp only [add_zero]; rfl

/-- A sum over the positions of a row cut at `lo` and `lo + b`: nothing beyond, so what is inside the
    current block plus what is before it. -/
theorem sum_cut {n b : ℕ} (f : Fin n → EReal) (lo : ℕ) (h : lo + b ≤ n)
    (h0 : ∀ k : Fin n, lo + b ≤ k.val → f k = 0) :
    ∑ k, f k = (∑ j : Fin b, f ⟨lo + j.val, by omega⟩) + ∑ j : Fin lo, f ⟨j.val, by omega⟩ := by
  rw [sum_block (b := lo + b) f 0 (by omega) (fun j hj => h0 j (by omega)), Fin.sum_univ_add, add_comm]
  congr 1
  · refine Finset.sum_congr rfl fun j _ => congrArg f (Fin.ext ?_)
    simp
  · refine Finset.sum_congr rfl fun j _ => congrArg f (Fin.ext ?_)
    simp

/-! ## Scaling a sum, the softmax row -/

/-- A real factor at least zero goes into a sum. -/
theorem sum_mul_real {ι : Type} (s : Finset ι) (f : ι → EReal) (c : ℝ) (hc : 0 ≤ c) :
    (∑ i ∈ s, f i) * (c : EReal) = ∑ i ∈ s, f i * (c : EReal) := by
  classical
  induction s using Finset.induction_on with
  | empty => simp
  | insert a s ha ih =>
    rw [Finset.sum_insert ha, Finset.sum_insert ha,
      EReal.right_distrib_of_nonneg_of_ne_top (by exact_mod_cast hc) (EReal.coe_ne_top c), ih]

/-- The real sum of real numbers, as an extended real. -/
theorem coe_sum' {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The largest of finitely many entries is a real number when none is `⊤` and one is not `⊥`. -/
theorem fold_max_isR {ι : Type} [Fintype ι] (f : ι → EReal) (k : ι) (hk : f k ≠ ⊥) (ht : ∀ i, f i ≠ ⊤) :
    IsR (Finset.univ.fold max ⊥ f) := by
  refine IsR.of_ne (ne_of_lt ?_) (ne_of_gt ?_)
  · rw [Finset.fold_max_lt]
    exact ⟨bot_lt_top, fun i _ => lt_top_iff_ne_top.mpr (ht i)⟩
  · rw [Finset.lt_fold_max]
    exact Or.inr ⟨k, Finset.mem_univ k, bot_lt_iff_ne_bot.mpr hk⟩

/-- The weight of one position in a softmax row, before it is normalised: `e` to its score where the
    position is visible, zero elsewhere. -/
def wt {n : ℕ} (vis : Fin n → Prop) [DecidablePred vis] (s : Fin n → ℝ) (k : Fin n) : ℝ :=
  if vis k then Real.exp (s k) else 0

theorem wt_nonneg {n : ℕ} (vis : Fin n → Prop) [DecidablePred vis] (s : Fin n → ℝ) (k : Fin n) :
    0 ≤ wt vis s k := by unfold wt; split <;> positivity

/-- The weights of a row some position of which is visible have a positive sum. -/
theorem wt_sum_pos {n : ℕ} (vis : Fin n → Prop) [DecidablePred vis] (s : Fin n → ℝ) (k : Fin n) (hk : vis k) :
    0 < ∑ j, wt vis s j :=
  Finset.sum_pos' (fun j _ => wt_nonneg vis s j)
    ⟨k, Finset.mem_univ k, by rw [wt, if_pos hk]; exact Real.exp_pos _⟩

/-- The exponential of a masked score less a real number. -/
theorem exp_masked {n : ℕ} (vis : Fin n → Prop) [DecidablePred vis] (s : Fin n → ℝ) (M : ℝ) (k : Fin n) :
    Ideal.exp ((if vis k then ((s k : ℝ) : EReal) else ⊥) - (M : EReal)) = ((wt vis s k * Real.exp (-M) : ℝ) : EReal) := by
  unfold wt
  split
  · rw [← EReal.coe_sub, Ideal.exp_coe, sub_eq_add_neg, Real.exp_add]
  · simp

/-- THE SOFTMAX ROW. The masked scores less their largest, exponentiated and divided by their sum, are
    the weights divided by their sum. -/
theorem softmax_row {n : ℕ} (vis : Fin n → Prop) [DecidablePred vis] (s : Fin n → ℝ) (M : EReal) (hM : IsR M)
    (k0 : Fin n) (hk0 : vis k0) (k : Fin n) :
    Ideal.div (Ideal.exp ((if vis k then ((s k : ℝ) : EReal) else ⊥) - M))
        (∑ j, Ideal.exp ((if vis j then ((s j : ℝ) : EReal) else ⊥) - M))
      = ((wt vis s k / ∑ j, wt vis s j : ℝ) : EReal) := by
  obtain ⟨M, rfl⟩ := hM
  have hS := wt_sum_pos vis s k0 hk0
  simp only [exp_masked]
  rw [← coe_sum', ← Finset.sum_mul, Ideal.div_coe (mul_pos hS (Real.exp_pos _)).ne', ← EReal.coe_mul]
  congr 1
  have := (Real.exp_pos (-M)).ne'
  field_simp

/-- THE TWO NORMALISATIONS AGREE. Weighting the values first and dividing by the sum of the weights
    afterwards is weighting the values with the normalised weights. -/
theorem weighted_sum {n : ℕ} (vis : Fin n → Prop) [DecidablePred vis] (s : Fin n → ℝ) (v : Fin n → EReal)
    (k0 : Fin n) (hk0 : vis k0) :
    (∑ k, v k * ((wt vis s k : ℝ) : EReal)) * Ideal.div 1 (∑ k, ((wt vis s k : ℝ) : EReal))
      = ∑ k, ((wt vis s k / ∑ j, wt vis s j : ℝ) : EReal) * v k := by
  have hS := wt_sum_pos vis s k0 hk0
  rw [← coe_sum', Ideal.div_coe hS.ne', one_mul, sum_mul_real _ _ _ (by positivity)]
  refine Finset.sum_congr rfl fun k _ => ?_
  rw [mul_assoc, ← EReal.coe_mul, mul_comm, mul_one_div]

end Attn

end
-- ==== Proof.Prep.lean ====
/- What the kernel prepares before its blocks, entry by entry: the normalised keys and queries on eight padded rows
   per head, the bonus on the fifth row of the keys, and the values. -/
module

public import proofs.«01_k».proof.Proof.TableDefs
public import proofs.«01_k».proof.Proof.Scalars
public import proofs.«01_k».proof.Proof.Gen.KernelIdeal.Skeleton

@[expose] public section

set_option maxRecDepth 16384

noncomputable section

namespace Attn

open Idealize.ShloMosaic Cert.KernelIdeal Cert.KernelIdeal.Gen

/-- Row `r` of head `h` among the padded rows. -/
def row (h : Fin 12) (r : Fin 8) : Fin 96 := ⟨8 * h.val + r.val, by omega⟩
/-- Channel `d` of head `h` among the channels. -/
def chan (h : Fin 12) (d : Fin 4) : Fin 48 := ⟨4 * h.val + d.val, by omega⟩
/-- Row `c` of head `h` among rows of sixteen. -/
def row16 (h : Fin 12) (c : Fin 16) : Fin 192 := ⟨16 * h.val + c.val, by omega⟩

/-! ## The mathematics that both programs compute -/

/-- One channel of the projected position `t`. -/
def proj (w : FVec Ideal S48x768 .f32) (x : FVec Ideal S2048x768 .f32) (h : Fin 12) (t : Fin 2048) (d : Fin 4) : EReal :=
  ∑ k : Fin 768, w (ix2 (chan h d) k) * x (ix2 t k)

/-- The projected position, normalised over its four channels. -/
def unitv (w : FVec Ideal S48x768 .f32) (x : FVec Ideal S2048x768 .f32) (h : Fin 12) (t : Fin 2048) (d : Fin 4) : EReal :=
  nrm (proj w x h t d) (∑ e : Fin 4, proj w x h t e * proj w x h t e)

/-! ## Sums against the tables -/

/-- A sum against a zero-one condition that holds at one index picks that entry. -/
theorem sum_ite_pick {n : ℕ} (P : Fin n → Prop) [DecidablePred P] (f : Fin n → EReal) (k : Fin n) (hk : P k)
    (h : ∀ j, P j → j = k) : ∑ j, (if P j then (1 : EReal) else 0) * f j = f k :=
  sum_pick f k _ (if_pos hk) fun j hj => if_neg fun hp => hj (h j hp)

/-- A sum against a zero-one condition that never holds is zero. -/
theorem sum_ite_none {n : ℕ} (P : Fin n → Prop) [DecidablePred P] (f : Fin n → EReal) (h : ∀ j, ¬ P j) :
    ∑ j, (if P j then (1 : EReal) else 0) * f j = 0 :=
  sum_none f _ fun j => if_neg (h j)

/-- A padded row of the channels: the channel on the first four rows of a head, zero on the others. -/
theorem pad_sum (f : Fin 48 → EReal) (h : Fin 12) (r : Fin 8) :
    ∑ c : Fin 48, PAD (ix2 (row h r) c) * f c = if hr : r.val < 4 then f (chan h ⟨r.val, hr⟩) else 0 := by
  have e : ∀ c : Fin 48, PAD (ix2 (row h r) c)
      = if (8 * h.val + r.val) / 8 = c.val / 4 ∧ (8 * h.val + r.val) % 8 = c.val % 4 then (1 : EReal) else 0 := fun c => rfl
  simp only [e]
  split
  · rename_i hr
    refine sum_ite_pick _ f (chan h ⟨r.val, hr⟩) ?_ ?_
    · show _ = (4 * h.val + r.val) / 4 ∧ _ = (4 * h.val + r.val) % 4; omega
    · intro j hj; apply Fin.ext; show j.val = 4 * h.val + r.val; omega
  · exact sum_ite_none _ f fun j hj => by omega

/-- A sum over a head's block of eight columns. -/
theorem block_sum (F : Fin 96 → EReal) (h : Fin 12) (h0 : ∀ j : Fin 96, j.val / 8 ≠ h.val → F j = 0) :
    ∑ j, F j = ∑ r : Fin 8, F (row h r) :=
  sum_block F (8 * h.val) (by omega) fun j hj => h0 j (by omega)

theorem g_sum (F : Fin 96 → EReal) (h : Fin 12) (r : Fin 8) :
    ∑ j : Fin 96, G96 (ix2 (row h r) j) * F j = ∑ r' : Fin 8, F (row h r') := by
  have e : ∀ j : Fin 96, G96 (ix2 (row h r) j) = if (8 * h.val + r.val) / 8 = j.val / 8 then (1 : EReal) else 0 := fun j => rfl
  rw [block_sum (fun j => G96 (ix2 (row h r) j) * F j) h fun j hj => by
    show G96 (ix2 (row h r) j) * F j = 0
    rw [e, if_neg (by omega), zero_mul]]
  refine Finset.sum_congr rfl fun r' _ => ?_
  show G96 (ix2 (row h r) (row h r')) * F (row h r') = _
  rw [e, if_pos (by show _ = (8 * h.val + r'.val) / 8; omega), one_mul]

/-- The normalisation of padded rows: on the first four rows of a head it is the normalisation over the four
    channels, and on the others it is zero. -/
theorem nrm_pad (a : Fin 96 → EReal) (b : Fin 12 → Fin 4 → EReal)
    (ha : ∀ h r, a (row h r) = if hr : r.val < 4 then b h ⟨r.val, hr⟩ else 0) (h : Fin 12) (r : Fin 8) :
    nrm (a (row h r)) (∑ j : Fin 96, G96 (ix2 (row h r) j) * (a j * a j))
      = if hr : r.val < 4 then nrm (b h ⟨r.val, hr⟩) (∑ e : Fin 4, b h e * b h e) else 0 := by
  rw [g_sum (fun j => a j * a j), sum_eight_four _ fun r' hr' => by
    show a (row h r') * a (row h r') = 0
    rw [ha, dif_neg (by omega), zero_mul], ha]
  split
  · rename_i hr
    congr 1
    refine Finset.sum_congr rfl fun e _ => ?_
    show a (row h _) * a (row h _) = _
    rw [ha, dif_pos e.isLt]
  · exact nrm_zero _

/-! ## The keys -/

theorem ite_sum_mul (n : ℕ) (p : Prop) [Decidable p] (f : p → Fin n → EReal) (g : Fin n → EReal) :
    ∑ k, (if hp : p then f hp k else 0) * g k = if hp : p then ∑ k, f hp k * g k else 0 := by
  split
  · rfl
  · simp

theorem pay2_read (x : FVec Ideal S2048x768 .f32) (w : FVec Ideal S48x768 .f32) (i : Fin 96) (t : Fin 2048) :
    k0_pay2 (F := Ideal) x G96 PAD w (ix2 i t) = nrm (∑ k : Fin 768, (∑ c : Fin 48, PAD (ix2 i c) * w (ix2 c k)) * x (ix2 t k))
      (∑ j : Fin 96, G96 (ix2 i j) * ((∑ k : Fin 768, (∑ c : Fin 48, PAD (ix2 j c) * w (ix2 c k)) * x (ix2 t k))
        * (∑ k : Fin 768, (∑ c : Fin 48, PAD (ix2 j c) * w (ix2 c k)) * x (ix2 t k)))) := by
  unfold nrm eps
  pointwise [k0_pay2, k0_pay1]

/-- The padded projection. -/
theorem proj_pad (x : FVec Ideal S2048x768 .f32) (w : FVec Ideal S48x768 .f32) (h : Fin 12) (r : Fin 8) (t : Fin 2048) :
    (∑ k : Fin 768, (∑ c : Fin 48, PAD (ix2 (row h r) c) * w (ix2 c k)) * x (ix2 t k))
      = if hr : r.val < 4 then proj w x h t ⟨r.val, hr⟩ else 0 := by
  simp only [pad_sum (fun c => w (ix2 c _))]
  exact ite_sum_mul 768 (r.val < 4) (fun hr k => w (ix2 (chan h ⟨r.val, hr⟩) k)) (fun k => x (ix2 t k))

/-- The keys on their padded rows. -/
theorem pay2_row (x : FVec Ideal S2048x768 .f32) (w : FVec Ideal S48x768 .f32) (h : Fin 12) (r : Fin 8) (t : Fin 2048) :
    k0_pay2 (F := Ideal) x G96 PAD w (ix2 (row h r) t) = if hr : r.val < 4 then unitv w x h t ⟨r.val, hr⟩ else 0 := by
  rw [pay2_read]
  exact nrm_pad (fun j => ∑ k : Fin 768, (∑ c : Fin 48, PAD (ix2 j c) * w (ix2 c k)) * x (ix2 t k))
    (fun h d => proj w x h t d) (fun h r => proj_pad x w h r t) h r

/-! ## The queries -/

/-- A channel of the rotated query: the head's matrix applied to the normalised query. -/
def rotq (wn : FVec Ideal S48x4 .f32) (wq : FVec Ideal S48x768 .f32) (x : FVec Ideal S2048x768 .f32) (h : Fin 12) (t : Fin 2048)
    (e : Fin 4) : EReal := ∑ d : Fin 4, wn (ix2 (chan h d) e) * unitv wq x h t d

/-- The rotated query, normalised again. -/
def query (wn : FVec Ideal S48x4 .f32) (wq : FVec Ideal S48x768 .f32) (x : FVec Ideal S2048x768 .f32) (h : Fin 12) (t : Fin 2048)
    (e : Fin 4) : EReal := nrm (rotq wn wq x h t e) (∑ d : Fin 4, rotq wn wq x h t d * rotq wn wq x h t d)

/-- A sum against the repeated columns. -/
theorem tile4_sum (f : Fin 4 → EReal) (h : Fin 12) (r : Fin 8) :
    ∑ e : Fin 4, f e * TILE4 (ix2 e (row h r)) = if hr : r.val < 4 then f ⟨r.val, hr⟩ else 0 := by
  have e : ∀ c : Fin 4, f c * TILE4 (ix2 c (row h r)) = (if (8 * h.val + r.val) % 8 = c.val then (1 : EReal) else 0) * f c :=
    fun c => mul_comm _ _
  simp only [e]
  split
  · rename_i hr
    refine sum_ite_pick _ f ⟨r.val, hr⟩ ?_ ?_
    · show _ = r.val; omega
    · intro j hj; apply Fin.ext; show j.val = r.val; omega
  · exact sum_ite_none _ f fun j hj => by omega

/-- The block table inside and outside a head. -/
theorem g_in (h : Fin 12) (r r' : Fin 8) : G96 (ix2 (row h r) (row h r')) = 1 :=
  if_pos (by show (8 * h.val + r.val) / 8 = (8 * h.val + r'.val) / 8; omega)
theorem g_out (h : Fin 12) (r : Fin 8) (j : Fin 96) (hj : j.val / 8 ≠ h.val) : G96 (ix2 j (row h r)) = 0 :=
  if_neg (by show ¬ j.val / 8 = (8 * h.val + r.val) / 8; omega)
theorem g_out' (h : Fin 12) (r : Fin 8) (j : Fin 96) (hj : j.val / 8 ≠ h.val) : G96 (ix2 (row h r) j) = 0 :=
  if_neg (by show ¬ (8 * h.val + r.val) / 8 = j.val / 8; omega)

theorem pay4_read (x : FVec Ideal S2048x768 .f32) (wq : FVec Ideal S48x768 .f32) (wn : FVec Ideal S48x4 .f32) (i : Fin 96) (t : Fin 2048) :
    k0_pay4 (F := Ideal) x G96 PAD TILE4 wq wn (ix2 i t)
      = ∑ j : Fin 96, ((∑ e : Fin 4, (∑ c : Fin 48, PAD (ix2 j c) * wn (ix2 c e)) * TILE4 (ix2 e i)) * G96 (ix2 j i))
          * k0_pay2 (F := Ideal) x G96 PAD wq (ix2 j t) := by
  simp only [pay2_read]
  unfold nrm eps
  pointwise [k0_pay4, k0_pay1]

/-- The rotated query on its padded rows. -/
theorem pay4_row (x : FVec Ideal S2048x768 .f32) (wq : FVec Ideal S48x768 .f32) (wn : FVec Ideal S48x4 .f32) (h : Fin 12) (r : Fin 8)
    (t : Fin 2048) : k0_pay4 (F := Ideal) x G96 PAD TILE4 wq wn (ix2 (row h r) t)
      = if hr : r.val < 4 then rotq wn wq x h t ⟨r.val, hr⟩ else 0 := by
  rw [pay4_read, block_sum _ h fun j hj => by rw [g_out h r j hj, mul_zero, zero_mul],
    sum_eight_four _ fun r' hr' => by rw [pay2_row, dif_neg (by omega), mul_zero]]
  simp only [tile4_sum, g_in, mul_one, pay2_row, Fin.is_lt, dite_true]
  split
  · rename_i hr
    refine Finset.sum_congr rfl fun d _ => ?_
    rw [pad_sum (fun c => wn (ix2 c _)), dif_pos d.isLt]
  · simp

/-- The scale of the queries: half of the reciprocal of the logarithm of two. -/
def scl : ℝ := (1 / 2) * (Real.log 2)⁻¹

theorem named_scale : (Named.named (F := Ideal) (φ := .f32) κ "scale_log2e" 0x3F38AA3B#32 : EReal) = ((scl : ℝ) : EReal) :=
  IdealRules.named_const.ideal_named_scalar _ _ _ _ rfl
theorem named_log2e : (Named.named (F := Ideal) (φ := .f32) κ "log2e" 0x3FB8AA3B#32 : EReal) = (((Real.log 2)⁻¹ : ℝ) : EReal) :=
  IdealRules.named_const.ideal_named_scalar _ _ _ _ rfl
theorem named_mask : (Named.named (F := Ideal) (φ := .bf16) κ "mask" 0xF14A#16 : EReal) = ⊥ :=
  IdealRules.named_const.ideal_named_scalar _ _ _ _ rfl

theorem pay6_read (u : FVec Ideal S96x2048 .f32) (i : Fin 96) (t : Fin 2048) :
    k0_pay6 (F := Ideal) G96 u (mulf u u) ONEC (ix2 i t)
      = nrm (u (ix2 i t)) (∑ j : Fin 96, G96 (ix2 i j) * (u (ix2 j t) * u (ix2 j t))) * ((scl : ℝ) : EReal)
        + ONEC (ix2 i 0) * (((Real.log 2)⁻¹ : ℝ) : EReal) := by
  unfold nrm eps
  rw [← named_scale, ← named_log2e]
  pointwise [k0_pay6]

/-- The kernel's queries on their padded rows: the scaled query on the first four, the reciprocal of the logarithm of
    two on the fifth, zero on the others. -/
def qrow (q : Fin 4 → EReal) (r : Fin 8) : EReal :=
  if hr : r.val < 4 then q ⟨r.val, hr⟩ * ((scl : ℝ) : EReal) else if r.val = 4 then (((Real.log 2)⁻¹ : ℝ) : EReal) else 0

theorem onec_row (h : Fin 12) (r : Fin 8) : ONEC (ix2 (row h r) 0) = if r.val = 4 then (1 : EReal) else 0 := by
  refine if_congr ?_ rfl rfl
  show (8 * h.val + r.val) % 8 = 4 ↔ _
  omega

theorem pay6_row (x : FVec Ideal S2048x768 .f32) (wq : FVec Ideal S48x768 .f32) (wn : FVec Ideal S48x4 .f32) (h : Fin 12) (r : Fin 8)
    (t : Fin 2048) :
    k0_pay6 (F := Ideal) G96 (k0_pay4 x G96 PAD TILE4 wq wn) (k0_pay5 x G96 PAD TILE4 wq wn) ONEC (ix2 (row h r) t)
      = qrow (query wn wq x h t) r := by
  have e := pay6_read (k0_pay4 (F := Ideal) x G96 PAD TILE4 wq wn) (row h r) t
  rw [nrm_pad (fun j => k0_pay4 (F := Ideal) x G96 PAD TILE4 wq wn (ix2 j t)) (fun h d => rotq wn wq x h t d)
    (fun h r => pay4_row x wq wn h r t) h r, onec_row] at e
  refine e.trans ?_
  unfold qrow query
  by_cases hr : r.val < 4
  · rw [dif_pos hr, dif_pos hr, if_neg (by omega), zero_mul, add_zero]
  · rw [dif_neg hr, dif_neg hr, zero_mul, zero_add]
    split <;> simp

/-! ## The bonus of a position -/

/-- The soft sign of root `r` at a key. -/
def sgn (roots : FVec Ideal S4x4 .f32) (k : Fin 4 → EReal) (r : Fin 4) : EReal :=
  Ideal.logistic ((∑ d : Fin 4, roots (ix2 r d) * k d) * 3)

theorem three_f32 : Ideal.ofBits .f32 0x40400000#32 = (3 : EReal) := by
  simp [Ideal.ofBits, Ideal.ieee]
  norm_num
  norm_cast
  rw [show (12582912 * (1 / 4194304) : ℝ) = 3 by norm_num]
  rfl

theorem pay7_read (kt : FVec Ideal S96x2048 .f32) (roots : FVec Ideal S4x4 .f32) (i : Fin 96) (t : Fin 2048) :
    k0_pay7 (F := Ideal) G96 TILE4 kt R8 roots (ix2 i t)
      = Ideal.logistic ((∑ j : Fin 96, ((∑ e : Fin 4, (∑ c : Fin 4, R8 (ix2 i c) * roots (ix2 c e)) * TILE4 (ix2 e j)) * G96 (ix2 i j))
          * kt (ix2 j t)) * 3) := by
  rw [← three_f32]
  pointwise [k0_pay7]

theorem r8_sum (f : Fin 4 → EReal) (h : Fin 12) (r : Fin 8) :
    ∑ c : Fin 4, R8 (ix2 (row h r) c) * f c = if hr : r.val < 4 then f ⟨r.val, hr⟩ else 0 := by
  have e : ∀ c : Fin 4, R8 (ix2 (row h r) c) = if (8 * h.val + r.val) % 8 = c.val then (1 : EReal) else 0 := fun c => rfl
  simp only [e]
  split
  · rename_i hr
    refine sum_ite_pick _ f ⟨r.val, hr⟩ ?_ ?_
    · show _ = r.val; omega
    · intro j hj; apply Fin.ext; show j.val = r.val; omega
  · exact sum_ite_none _ f fun j hj => by omega

/-- The soft signs on the first four rows of a head. -/
theorem pay7_row (kt : FVec Ideal S96x2048 .f32) (roots : FVec Ideal S4x4 .f32) (k : Fin 4 → EReal) (h : Fin 12) (t : Fin 2048)
    (hk : ∀ r : Fin 8, kt (ix2 (row h r) t) = if hr : r.val < 4 then k ⟨r.val, hr⟩ else 0) (r : Fin 4) :
    k0_pay7 (F := Ideal) G96 TILE4 kt R8 roots (ix2 (row h ⟨r.val, by omega⟩) t) = sgn roots k r := by
  rw [pay7_read, block_sum _ h fun j hj => by rw [g_out' h _ j hj, mul_zero, zero_mul],
    sum_eight_four _ fun r' hr' => by rw [hk, dif_neg (by omega), mul_zero]]
  unfold sgn
  congr 2
  refine Finset.sum_congr rfl fun d _ => ?_
  rw [tile4_sum, dif_pos d.isLt, g_in, mul_one, r8_sum (fun c => roots (ix2 c _)), dif_pos r.isLt, hk, dif_pos d.isLt]

/-- The factor of one bit: the soft sign where the bit is one, its complement where it is zero. -/
def bitf (s : EReal) (b : ℕ) : EReal := if b = 1 then s else 1 - s

/-- The weight of a chamber: the product of its four bit factors. -/
def chamber (s : Fin 4 → EReal) (c : ℕ) : EReal :=
  bitf (s 0) (c % 2) * bitf (s 1) (c / 2 % 2) * bitf (s 2) (c / 4 % 2) * bitf (s 3) (c / 8 % 2)

/-- A signed table's row plus its offset is the factor of one bit. -/
theorem sg_sum (S : Fin 96 → EReal) (C : Fin 96 → EReal) (o : EReal) (k : Fin 96) (b : ℕ) (hb : b < 2)
    (hC : ∀ j, C j = if j.val = k.val then (if b = 1 then (1 : EReal) else -1) else 0) (ho : o = if b = 0 then 1 else 0) :
    (∑ j : Fin 96, C j * S j) + o = bitf (S k) b := by
  rw [Finset.sum_eq_single k (fun j _ hj => by rw [hC, if_neg fun h => hj (Fin.ext h), zero_mul])
    (fun h => absurd (Finset.mem_univ k) h), hC, if_pos rfl, ho]
  unfold bitf
  rcases (by omega : b = 0 ∨ b = 1) with rfl | rfl
  · simp [sub_eq_add_neg, add_comm]
  · simp

theorem pay8_read (kt : FVec Ideal S96x2048 .f32) (roots : FVec Ideal S4x4 .f32) (i : Fin 48) (t : Fin 2048) :
    k0_pay8 (F := Ideal) G96 TILE4 kt R8 roots C1 O1 B2 (ix2 i t)
      = ∑ j : Fin 24, B2 (ix2 i j) * ((∑ k : Fin 96, C1 (ix2 j k) * k0_pay7 (F := Ideal) G96 TILE4 kt R8 roots (ix2 k t)) + O1 (ix2 j 0)) := by
  pointwise [k0_pay8]

theorem pay9_read (kt : FVec Ideal S96x2048 .f32) (roots : FVec Ideal S4x4 .f32) (i : Fin 48) (t : Fin 2048) :
    k0_pay9 (F := Ideal) G96 TILE4 kt R8 roots C2 O2 (ix2 i t)
      = (∑ k : Fin 96, C2 (ix2 i k) * k0_pay7 (F := Ideal) G96 TILE4 kt R8 roots (ix2 k t)) + O2 (ix2 i 0) := by
  pointwise [k0_pay9]

theorem pay11_read (kt S : FVec Ideal S96x2048 .f32) (p q : FVec Ideal S48x2048 .f32) (cb : FVec Ideal S12x16 .f32) (i : Fin 96) (t : Fin 2048) :
    k0_pay11 (F := Ideal) kt S p q B3 C3 O3 B4 C4 O4 SEL4 cb TILE16 BLK16 (ix2 i t)
      = kt (ix2 i t) + ∑ j : Fin 192,
          ((∑ c : Fin 16, (∑ h : Fin 12, SEL4 (ix2 i h) * cb (ix2 h c)) * TILE16 (ix2 c j)) * BLK16 (ix2 i j))
          * ((∑ a : Fin 96, B4 (ix2 j a) * ((∑ b : Fin 48, B3 (ix2 a b) * (p (ix2 b t) * q (ix2 b t)))
                * ((∑ k : Fin 96, C3 (ix2 a k) * S (ix2 k t)) + O3 (ix2 a 0))))
              * ((∑ k : Fin 96, C4 (ix2 j k) * S (ix2 k t)) + O4 (ix2 j 0))) := by
  pointwise [k0_pay11]

/-- The first bit factor, at its row. -/
theorem bit1 (S : Fin 96 → EReal) (h : Fin 12) (b : Fin 2) :
    (∑ k : Fin 96, C1 (ix2 (⟨2 * h.val + b.val, by omega⟩ : Fin 24) k) * S k) + O1 (ix2 (⟨2 * h.val + b.val, by omega⟩ : Fin 24) 0)
      = bitf (S (row h 0)) b.val := by
  refine sg_sum S _ _ (row h 0) b.val b.isLt (fun j => ?_) ?_
  · refine if_congr ?_ (if_congr ?_ rfl rfl) rfl
    · show j.val = 8 * ((2 * h.val + b.val) / 2) ↔ j.val = 8 * h.val + 0; omega
    · show (2 * h.val + b.val) % 2 = 1 ↔ b.val = 1; omega
  · refine if_congr ?_ rfl rfl
    show (2 * h.val + b.val) % 2 = 0 ↔ b.val = 0; omega

theorem bit2 (S : Fin 96 → EReal) (h : Fin 12) (c : Fin 4) :
    (∑ k : Fin 96, C2 (ix2 (chan h c) k) * S k) + O2 (ix2 (chan h c) 0) = bitf (S (row h 1)) (c.val / 2 % 2) := by
  refine sg_sum S _ _ (row h 1) (c.val / 2 % 2) (by omega) (fun j => ?_) ?_
  · refine if_congr ?_ (if_congr ?_ rfl rfl) rfl
    · show j.val = 8 * ((4 * h.val + c.val) / 4) + 1 ↔ j.val = 8 * h.val + 1; omega
    · show (4 * h.val + c.val) / 2 % 2 = 1 ↔ c.val / 2 % 2 = 1; omega
  · refine if_congr ?_ rfl rfl
    show (4 * h.val + c.val) / 2 % 2 = 0 ↔ c.val / 2 % 2 = 0; omega

theorem bit3 (S : Fin 96 → EReal) (h : Fin 12) (c : Fin 8) :
    (∑ k : Fin 96, C3 (ix2 (row h c) k) * S k) + O3 (ix2 (row h c) 0) = bitf (S (row h 2)) (c.val / 4 % 2) := by
  refine sg_sum S _ _ (row h 2) (c.val / 4 % 2) (by omega) (fun j => ?_) ?_
  · refine if_congr ?_ (if_congr ?_ rfl rfl) rfl
    · show j.val = 8 * ((8 * h.val + c.val) / 8) + 2 ↔ j.val = 8 * h.val + 2; omega
    · show (8 * h.val + c.val) / 4 % 2 = 1 ↔ c.val / 4 % 2 = 1; omega
  · refine if_congr ?_ rfl rfl
    show (8 * h.val + c.val) / 4 % 2 = 0 ↔ c.val / 4 % 2 = 0; omega

theorem bit4 (S : Fin 96 → EReal) (h : Fin 12) (c : Fin 16) :
    (∑ k : Fin 96, C4 (ix2 (row16 h c) k) * S k) + O4 (ix2 (row16 h c) 0) = bitf (S (row h 3)) (c.val / 8 % 2) := by
  refine sg_sum S _ _ (row h 3) (c.val / 8 % 2) (by omega) (fun j => ?_) ?_
  · refine if_congr ?_ (if_congr ?_ rfl rfl) rfl
    · show j.val = 8 * ((16 * h.val + c.val) / 16) + 3 ↔ j.val = 8 * h.val + 3; omega
    · show (16 * h.val + c.val) / 8 % 2 = 1 ↔ c.val / 8 % 2 = 1; omega
  · refine if_congr ?_ rfl rfl
    show (16 * h.val + c.val) / 8 % 2 = 0 ↔ c.val / 8 % 2 = 0; omega

/-- The tables that extend a product of bits by one more bit pick the row of the lower bits. -/
theorem ext2 (f : Fin 24 → EReal) (h : Fin 12) (c : Fin 4) :
    ∑ j : Fin 24, B2 (ix2 (chan h c) j) * f j = f ⟨2 * h.val + c.val % 2, by omega⟩ := by
  refine sum_pick f _ _ (if_pos ?_) fun j hj => if_neg fun e => hj (Fin.ext ?_)
  · show 2 * h.val + c.val % 2 = 2 * ((4 * h.val + c.val) / 4) + (4 * h.val + c.val) % 2; omega
  · have e' : j.val = 2 * ((4 * h.val + c.val) / 4) + (4 * h.val + c.val) % 2 := e
    show j.val = 2 * h.val + c.val % 2; omega

theorem ext3 (f : Fin 48 → EReal) (h : Fin 12) (c : Fin 8) :
    ∑ j : Fin 48, B3 (ix2 (row h c) j) * f j = f (chan h ⟨c.val % 4, by omega⟩) := by
  refine sum_pick f _ _ (if_pos ?_) fun j hj => if_neg fun e => hj (Fin.ext ?_)
  · show 4 * h.val + c.val % 4 = 4 * ((8 * h.val + c.val) / 8) + (8 * h.val + c.val) % 4; omega
  · have e' : j.val = 4 * ((8 * h.val + c.val) / 8) + (8 * h.val + c.val) % 4 := e
    show j.val = 4 * h.val + c.val % 4; omega

theorem ext4 (f : Fin 96 → EReal) (h : Fin 12) (c : Fin 16) :
    ∑ j : Fin 96, B4 (ix2 (row16 h c) j) * f j = f (row h ⟨c.val % 8, by omega⟩) := by
  refine sum_pick f _ _ (if_pos ?_) fun j hj => if_neg fun e => hj (Fin.ext ?_)
  · show 8 * h.val + c.val % 8 = 8 * ((16 * h.val + c.val) / 16) + (16 * h.val + c.val) % 8; omega
  · have e' : j.val = 8 * ((16 * h.val + c.val) / 16) + (16 * h.val + c.val) % 8 := e
    show j.val = 8 * h.val + c.val % 8; omega

/-- The chamber weights of a head, at their sixteen rows. -/
theorem chamber_row (S : Fin 96 → EReal) (p q : Fin 48 → EReal) (h : Fin 12)
    (hp : ∀ c : Fin 4, p (chan h c) = bitf (S (row h 0)) (c.val % 2))
    (hq : ∀ c : Fin 4, q (chan h c) = bitf (S (row h 1)) (c.val / 2 % 2)) (c : Fin 16) :
    (∑ a : Fin 96, B4 (ix2 (row16 h c) a) * ((∑ b : Fin 48, B3 (ix2 a b) * (p b * q b))
                * ((∑ k : Fin 96, C3 (ix2 a k) * S k) + O3 (ix2 a 0))))
              * ((∑ k : Fin 96, C4 (ix2 (row16 h c) k) * S k) + O4 (ix2 (row16 h c) 0))
      = chamber (fun r => S (row h ⟨r.val, by omega⟩)) c.val := by
  rw [ext4 (fun a => (∑ b : Fin 48, B3 (ix2 a b) * (p b * q b)) * ((∑ k : Fin 96, C3 (ix2 a k) * S k) + O3 (ix2 a 0))),
    bit4, bit3, ext3 (fun b => p b * q b), hp, hq]
  unfold chamber
  have e1 : c.val % 8 % 4 % 2 = c.val % 2 := by omega
  have e2 : c.val % 8 % 4 / 2 % 2 = c.val / 2 % 2 := by omega
  have e3 : c.val % 8 / 4 % 2 = c.val / 4 % 2 := by omega
  simp only [e1, e2, e3]
  rfl

/-- The bonus of a position. -/
def bonus (cb : FVec Ideal S12x16 .f32) (s : Fin 4 → EReal) (h : Fin 12) : EReal :=
  ∑ c : Fin 16, cb (ix2 h c) * chamber s c.val

/-- The spread bonus table of a head: its sixteen columns on the fifth row. -/
theorem cbe_in (cb : FVec Ideal S12x16 .f32) (h : Fin 12) (r : Fin 8) (c : Fin 16) :
    (∑ c' : Fin 16, (∑ h' : Fin 12, SEL4 (ix2 (row h r) h') * cb (ix2 h' c')) * TILE16 (ix2 c' (row16 h c))) * BLK16 (ix2 (row h r) (row16 h c))
      = if r.val = 4 then cb (ix2 h c) else 0 := by
  have eb : BLK16 (ix2 (row h r) (row16 h c)) = 1 :=
    if_pos (by show (8 * h.val + r.val) / 8 = (16 * h.val + c.val) / 16; omega)
  rw [eb, mul_one]
  have e : ∀ c' : Fin 16, (∑ h' : Fin 12, SEL4 (ix2 (row h r) h') * cb (ix2 h' c')) * TILE16 (ix2 c' (row16 h c))
      = (if (16 * h.val + c.val) % 16 = c'.val then (1 : EReal) else 0) * (∑ h' : Fin 12, SEL4 (ix2 (row h r) h') * cb (ix2 h' c')) :=
    fun c' => mul_comm _ _
  simp only [e]
  rw [sum_ite_pick _ (fun c' => ∑ h' : Fin 12, SEL4 (ix2 (row h r) h') * cb (ix2 h' c')) c (by omega)
    (fun j hj => Fin.ext (by omega))]
  have e2 : ∀ h' : Fin 12, SEL4 (ix2 (row h r) h') = if (8 * h.val + r.val) / 8 = h'.val ∧ (8 * h.val + r.val) % 8 = 4 then (1 : EReal) else 0 :=
    fun _ => rfl
  simp only [e2]
  split
  · exact sum_ite_pick _ (fun h' => cb (ix2 h' c)) h (by omega) fun j hj => Fin.ext (by omega)
  · exact sum_ite_none _ (fun h' => cb (ix2 h' c)) fun j hj => by omega

/-- The kernel's keys on their padded rows: the key on the first four, the bonus on the fifth, zero on the others. -/
def krow (k : Fin 4 → EReal) (b : EReal) (r : Fin 8) : EReal :=
  if hr : r.val < 4 then k ⟨r.val, hr⟩ else if r.val = 4 then b else 0

theorem pay11_row (kt S : FVec Ideal S96x2048 .f32) (p q : FVec Ideal S48x2048 .f32) (cb : FVec Ideal S12x16 .f32)
    (k : Fin 4 → EReal) (s : Fin 4 → EReal) (h : Fin 12) (t : Fin 2048)
    (hk : ∀ r : Fin 8, kt (ix2 (row h r) t) = if hr : r.val < 4 then k ⟨r.val, hr⟩ else 0)
    (hs : ∀ r : Fin 4, S (ix2 (row h ⟨r.val, by omega⟩) t) = s r)
    (hp : ∀ c : Fin 4, p (ix2 (chan h c) t) = bitf (S (ix2 (row h 0) t)) (c.val % 2))
    (hq : ∀ c : Fin 4, q (ix2 (chan h c) t) = bitf (S (ix2 (row h 1) t)) (c.val / 2 % 2)) (r : Fin 8) :
    k0_pay11 (F := Ideal) kt S p q B3 C3 O3 B4 C4 O4 SEL4 cb TILE16 BLK16 (ix2 (row h r) t) = krow k (bonus cb s h) r := by
  rw [pay11_read, sum_block (b := 16) _ (16 * h.val) (by omega) fun j hj => by
    rw [show BLK16 (ix2 (row h r) j) = 0 from if_neg (by
      show ¬ (8 * h.val + r.val) / 8 = j.val / 16; omega), mul_zero, zero_mul]]
  have e : ∀ c : Fin 16, (⟨16 * h.val + c.val, by omega⟩ : Fin 192) = row16 h c := fun _ => rfl
  simp only [e, cbe_in, chamber_row (fun i => S (ix2 i t)) (fun i => p (ix2 i t)) (fun i => q (ix2 i t)) h hp hq, hs, hk]
  unfold krow bonus
  by_cases hr : r.val < 4
  · have h4 : ¬ r.val = 4 := by omega
    rw [dif_pos hr, dif_pos hr]; simp [h4]
  · rw [dif_neg hr, dif_neg hr, zero_add]
    split <;> simp

/-- The keys and the bonus together, from the arguments. -/
theorem keys_row (x : FVec Ideal S2048x768 .f32) (wk : FVec Ideal S48x768 .f32) (roots : FVec Ideal S4x4 .f32)
    (cb : FVec Ideal S12x16 .f32) (h : Fin 12) (r : Fin 8) (t : Fin 2048) :
    k0_pay11 (F := Ideal) (k0_pay2 x G96 PAD wk) (k0_pay7 G96 TILE4 (k0_pay2 x G96 PAD wk) R8 roots)
        (k0_pay8 G96 TILE4 (k0_pay2 x G96 PAD wk) R8 roots C1 O1 B2) (k0_pay9 G96 TILE4 (k0_pay2 x G96 PAD wk) R8 roots C2 O2)
        B3 C3 O3 B4 C4 O4 SEL4 cb TILE16 BLK16 (ix2 (row h r) t)
      = krow (unitv wk x h t) (bonus cb (sgn roots (unitv wk x h t)) h) r := by
  refine pay11_row _ _ _ _ cb (unitv wk x h t) (sgn roots (unitv wk x h t)) h t (fun r => pay2_row x wk h r t)
    (fun r => pay7_row _ roots (unitv wk x h t) h t (fun r => pay2_row x wk h r t) r) (fun c => ?_) (fun c => ?_) r
  · rw [pay8_read, ext2 (fun j => (∑ k : Fin 96, C1 (ix2 j k) * k0_pay7 (F := Ideal) G96 TILE4 (k0_pay2 x G96 PAD wk) R8 roots (ix2 k t)) + O1 (ix2 j 0))]
    exact bit1 (fun k => k0_pay7 (F := Ideal) G96 TILE4 (k0_pay2 x G96 PAD wk) R8 roots (ix2 k t)) h ⟨c.val % 2, by omega⟩
  · rw [pay9_read]
    exact bit2 (fun k => k0_pay7 (F := Ideal) G96 TILE4 (k0_pay2 x G96 PAD wk) R8 roots (ix2 k t)) h c

/-! ## The values -/

/-- A value channel of a position. -/
def valv (wv : FVec Ideal S192x768 .f32) (x : FVec Ideal S2048x768 .f32) (t : Fin 2048) (i : Fin 192) : EReal :=
  ∑ k : Fin 768, wv (ix2 i k) * x (ix2 t k)

theorem pay3_row (x : FVec Ideal S2048x768 .f32) (wv : FVec Ideal S192x768 .f32) (i : Fin 192) (t : Fin 2048) :
    k0_pay3 (F := Ideal) x wv (ix2 i t) = valv wv x t i := by
  unfold valv
  pointwise [k0_pay3, k0_pay1]

end Attn

end
-- ==== Proof.HostVals.lean ====
/- The arrays the kernel's windows stage: the arguments, two of them reshaped, and the constant tables; and the value
   the one grid point leaves in the output block. -/
module

public import proofs.«01_k».proof.Proof.IdealFrame
public import proofs.«01_k».proof.Proof.Stores
public import proofs.«01_k».proof.Proof.Tables
public import proofs.«01_k».proof.Proof.Prep
public import Idealize.ShloMosaic.Lib.StableHlo.RunRead
public import Idealize.ShloMosaic.Lib.StableHlo.ReadAt
public import Idealize.ShloMosaic.Lib.Pipeline.Value

@[expose] public section

set_option maxRecDepth 16384

noncomputable section

namespace Attn

open Idealize.ShloMosaic Idealize.ShloMosaic.TcCoe Idealize.SL Cert.KernelIdeal Cert.KernelIdeal.Gen Cert.KernelIdeal.Launch

variable (m : (ℓ : Loc nD τ sig) → Buf (Elt Ideal) ℓ) (c : Dev nD)

/-! ## The host arrays -/

/-- The comparison behind the additive mask, on the column of the block and the row. -/
theorem mask_bit (n k : ℕ) (hn : n < 512) (hk : k < 2048) :
    (BitVec.ofNat 32 k &&& 511#32).slt (BitVec.ofNat 32 n) = decide (k % 512 < n) := by
  have e : (BitVec.ofNat 32 k &&& 511#32) = BitVec.ofNat 32 (k % 512) := by
    apply BitVec.eq_of_toNat_eq
    rw [BitVec.toNat_and, BitVec.toNat_ofNat, BitVec.toNat_ofNat, BitVec.toNat_ofNat]
    have := Nat.and_two_pow_sub_one_eq_mod k 9
    rw [Nat.mod_eq_of_lt (by omega : k < 2 ^ 32), Nat.mod_eq_of_lt (by omega : 511 < 2 ^ 32), Nat.mod_eq_of_lt (by omega : k % 512 < 2 ^ 32)]
    exact this
  have t1 : (BitVec.ofNat 32 (k % 512)).toNat = k % 512 := by rw [BitVec.toNat_ofNat, Nat.mod_eq_of_lt (by omega)]
  have t2 : (BitVec.ofNat 32 n).toNat = n := by rw [BitVec.toNat_ofNat, Nat.mod_eq_of_lt (by omega)]
  rw [e, BitVec.slt, BitVec.toInt_eq_toNat_of_lt (by rw [t1]; omega), BitVec.toInt_eq_toNat_of_lt (by rw [t2]; omega), t1, t2]
  exact decide_eq_decide.mpr (by omega)

/-- The additive mask's table of ones above the diagonal. -/
theorem V_v8 : (V m c main_v8 : FVec Ideal S512x2048 .bf16) = AMASK := by
  unfold V
  after_reads_simp
  funext i
  show (if BitVec.ofBool ((BitVec.ofNat 32 (i 1).val &&& 511#32).slt (BitVec.ofNat 32 (i 0).val)) = 1#1 then Ideal.ofBits .f32 0x3F800000#32
    else Ideal.ofBits .f32 0x00000000#32) = _
  rw [mask_bit _ _ (i 0).isLt (i 1).isLt, Ideal.ofBits_one_f32, Ideal.ofBits_zero_f32]
  unfold AMASK
  by_cases h : (i 1).val % 512 < (i 0).val <;> simp [h]

/-- The rows of the input, as the kernel takes them. -/
theorem V_v0 : (V m c main_v0 : FVec Ideal S2048x768 .f32)
    = shapeCast S2048x768 (m ((c : Thread nD τ).loc main_arg0) : FVec Ideal S1x2048x768 .f32) shapeCasts_S1x2048x768_S2048x768 := by
  unfold V
  after_reads_simp
  rfl

/-- The rotation, one row per head and channel. -/
theorem V_v1 : (V m c main_v1 : FVec Ideal S48x4 .f32)
    = shapeCast S48x4 (m ((c : Thread nD τ).loc main_arg5) : FVec Ideal S12x4x4 .f32) shapeCasts_S12x4x4_S48x4 := by
  unfold V
  after_reads_simp
  rfl

theorem rows_read (x : FVec Ideal S1x2048x768 .f32) (t : Fin 2048) (k : Fin 768) :
    shapeCast S2048x768 x shapeCasts_S1x2048x768_S2048x768 (ix2 t k) = x (ix3 0 t k) := by
  pointwise

theorem rotation_read (x : FVec Ideal S12x4x4 .f32) (h : Fin 12) (d e : Fin 4) :
    shapeCast S48x4 x shapeCasts_S12x4x4_S48x4 (ix2 (chan h d) e) = x (ix3 h d e) := by
  pointwise
  exact congrArg₂ (fun a b => x (ix3 a b e)) (Fin.ext (by show (4 * h.val + d.val) / 4 = h.val; omega))
    (Fin.ext (by show (4 * h.val + d.val) % 4 = d.val; omega))

/-! ## The blocks of the windows -/

/-- The one grid point takes each array from its start … -/
theorem off_zero (w : Fin 31) (t : Fin cfg0.N) (a : Fin (cfg0.win w).shape.rank) :
    (cfg0.win w).kind.off ((cfg0.win w).index t a) ((cfg0.win w).size a) = 0 := by
  obtain rfl : t = ⟨0, by decide⟩ := by revert t; decide
  revert w; decide

/-- … so an index of the block is the same index of the array. -/
theorem emb_same (w : Fin 31) (t : Fin cfg0.N) (i : ((cfg0.win w).xblock (cfg0.grid.coords t)).Idx)
    (a : Fin (cfg0.win w).shape.rank) : (((cfg0.win w).rect t).emb i a : Nat) = i a := by
  rw [Pipeline.Window.rect_emb_val_off, off_zero, Nat.zero_add]

/-! Each window's block is the array it stages. -/

theorem blk_0 (t : Fin cfg0.N) : iblk m c 0 t = V m c main_v0 :=
  funext fun i => congrArg (V m c main_v0) (funext fun a => Fin.ext (emb_same 0 t i a))
theorem blk_1 (t : Fin cfg0.N) : iblk m c 1 t = V m c main_arg1 :=
  funext fun i => congrArg (V m c main_arg1) (funext fun a => Fin.ext (emb_same 1 t i a))
theorem blk_2 (t : Fin cfg0.N) : iblk m c 2 t = V m c main_arg2 :=
  funext fun i => congrArg (V m c main_arg2) (funext fun a => Fin.ext (emb_same 2 t i a))
theorem blk_3 (t : Fin cfg0.N) : iblk m c 3 t = V m c main_arg3 :=
  funext fun i => congrArg (V m c main_arg3) (funext fun a => Fin.ext (emb_same 3 t i a))
theorem blk_4 (t : Fin cfg0.N) : iblk m c 4 t = V m c main_v1 :=
  funext fun i => congrArg (V m c main_v1) (funext fun a => Fin.ext (emb_same 4 t i a))
theorem blk_5 (t : Fin cfg0.N) : iblk m c 5 t = V m c main_arg7 :=
  funext fun i => congrArg (V m c main_arg7) (funext fun a => Fin.ext (emb_same 5 t i a))
theorem blk_6 (t : Fin cfg0.N) : iblk m c 6 t = V m c main_arg6 :=
  funext fun i => congrArg (V m c main_arg6) (funext fun a => Fin.ext (emb_same 6 t i a))
theorem blk_7 (t : Fin cfg0.N) : iblk m c 7 t = PAD :=
  (show iblk m c 7 t = V m c main_cst_10 from
    funext fun i => congrArg (V m c main_cst_10) (funext fun a => Fin.ext (emb_same 7 t i a))).trans
    (by unfold V; after_reads_simp; exact lit11_PAD)
theorem blk_8 (t : Fin cfg0.N) : iblk m c 8 t = TILE4 :=
  (show iblk m c 8 t = V m c main_cst_11 from
    funext fun i => congrArg (V m c main_cst_11) (funext fun a => Fin.ext (emb_same 8 t i a))).trans
    (by unfold V; after_reads_simp; exact lit12_TILE4)
theorem blk_9 (t : Fin cfg0.N) : iblk m c 9 t = R8 :=
  (show iblk m c 9 t = V m c main_cst_12 from
    funext fun i => congrArg (V m c main_cst_12) (funext fun a => Fin.ext (emb_same 9 t i a))).trans
    (by unfold V; after_reads_simp; exact lit13_R8)
theorem blk_10 (t : Fin cfg0.N) : iblk m c 10 t = SEL4 :=
  (show iblk m c 10 t = V m c main_cst_13 from
    funext fun i => congrArg (V m c main_cst_13) (funext fun a => Fin.ext (emb_same 10 t i a))).trans
    (by unfold V; after_reads_simp; exact lit14_SEL4)
theorem blk_11 (t : Fin cfg0.N) : iblk m c 11 t = TILE16 :=
  (show iblk m c 11 t = V m c main_cst_14 from
    funext fun i => congrArg (V m c main_cst_14) (funext fun a => Fin.ext (emb_same 11 t i a))).trans
    (by unfold V; after_reads_simp; exact lit15_TILE16)
theorem blk_12 (t : Fin cfg0.N) : iblk m c 12 t = BLK16 :=
  (show iblk m c 12 t = V m c main_cst_15 from
    funext fun i => congrArg (V m c main_cst_15) (funext fun a => Fin.ext (emb_same 12 t i a))).trans
    (by unfold V; after_reads_simp; exact lit16_BLK16)
theorem blk_13 (t : Fin cfg0.N) : iblk m c 13 t = G96 :=
  (show iblk m c 13 t = V m c main_cst_16 from
    funext fun i => congrArg (V m c main_cst_16) (funext fun a => Fin.ext (emb_same 13 t i a))).trans
    (by unfold V; after_reads_simp; exact lit17_G96)
theorem blk_14 (t : Fin cfg0.N) : iblk m c 14 t = ONEC :=
  (show iblk m c 14 t = V m c main_cst_17 from
    funext fun i => congrArg (V m c main_cst_17) (funext fun a => Fin.ext (emb_same 14 t i a))).trans
    (by unfold V; after_reads_simp; exact lit18_ONEC)
theorem blk_15 (t : Fin cfg0.N) : iblk m c 15 t = C1 :=
  (show iblk m c 15 t = V m c main_cst from
    funext fun i => congrArg (V m c main_cst) (funext fun a => Fin.ext (emb_same 15 t i a))).trans
    (by unfold V; after_reads_simp; exact lit0_C1)
theorem blk_16 (t : Fin cfg0.N) : iblk m c 16 t = O1 :=
  (show iblk m c 16 t = V m c main_cst_0 from
    funext fun i => congrArg (V m c main_cst_0) (funext fun a => Fin.ext (emb_same 16 t i a))).trans
    (by unfold V; after_reads_simp; exact lit1_O1)
theorem blk_17 (t : Fin cfg0.N) : iblk m c 17 t = B2 :=
  (show iblk m c 17 t = V m c main_cst_1 from
    funext fun i => congrArg (V m c main_cst_1) (funext fun a => Fin.ext (emb_same 17 t i a))).trans
    (by unfold V; after_reads_simp; exact lit2_B2)
theorem blk_18 (t : Fin cfg0.N) : iblk m c 18 t = C2 :=
  (show iblk m c 18 t = V m c main_cst_2 from
    funext fun i => congrArg (V m c main_cst_2) (funext fun a => Fin.ext (emb_same 18 t i a))).trans
    (by unfold V; after_reads_simp; exact lit3_C2)
theorem blk_19 (t : Fin cfg0.N) : iblk m c 19 t = O2 :=
  (show iblk m c 19 t = V m c main_cst_3 from
    funext fun i => congrArg (V m c main_cst_3) (funext fun a => Fin.ext (emb_same 19 t i a))).trans
    (by unfold V; after_reads_simp; exact lit4_O2)
theorem blk_20 (t : Fin cfg0.N) : iblk m c 20 t = B3 :=
  (show iblk m c 20 t = V m c main_cst_4 from
    funext fun i => congrArg (V m c main_cst_4) (funext fun a => Fin.ext (emb_same 20 t i a))).trans
    (by unfold V; after_reads_simp; exact lit5_B3)
theorem blk_21 (t : Fin cfg0.N) : iblk m c 21 t = C3 :=
  (show iblk m c 21 t = V m c main_cst_5 from
    funext fun i => congrArg (V m c main_cst_5) (funext fun a => Fin.ext (emb_same 21 t i a))).trans
    (by unfold V; after_reads_simp; exact lit6_C3)
theorem blk_22 (t : Fin cfg0.N) : iblk m c 22 t = O3 :=
  (show iblk m c 22 t = V m c main_cst_6 from
    funext fun i => congrArg (V m c main_cst_6) (funext fun a => Fin.ext (emb_same 22 t i a))).trans
    (by unfold V; after_reads_simp; exact lit7_O3)
theorem blk_23 (t : Fin cfg0.N) : iblk m c 23 t = B4 :=
  (show iblk m c 23 t = V m c main_cst_7 from
    funext fun i => congrArg (V m c main_cst_7) (funext fun a => Fin.ext (emb_same 23 t i a))).trans
    (by unfold V; after_reads_simp; exact lit8_B4)
theorem blk_24 (t : Fin cfg0.N) : iblk m c 24 t = C4 :=
  (show iblk m c 24 t = V m c main_cst_8 from
    funext fun i => congrArg (V m c main_cst_8) (funext fun a => Fin.ext (emb_same 24 t i a))).trans
    (by unfold V; after_reads_simp; exact lit9_C4)
theorem blk_25 (t : Fin cfg0.N) : iblk m c 25 t = O4 :=
  (show iblk m c 25 t = V m c main_cst_9 from
    funext fun i => congrArg (V m c main_cst_9) (funext fun a => Fin.ext (emb_same 25 t i a))).trans
    (by unfold V; after_reads_simp; exact lit10_O4)
theorem blk_26 (t : Fin cfg0.N) : iblk m c 26 t = V m c main_v8 :=
  funext fun i => congrArg (V m c main_v8) (funext fun a => Fin.ext (emb_same 26 t i a))
theorem blk_27 (t : Fin cfg0.N) : iblk m c 27 t = QMASK :=
  (show iblk m c 27 t = V m c main_cst_18 from
    funext fun i => congrArg (V m c main_cst_18) (funext fun a => Fin.ext (emb_same 27 t i a))).trans
    (by unfold V; after_reads_simp; exact lit19_QMASK)
theorem blk_28 (t : Fin cfg0.N) : iblk m c 28 t = EXPD :=
  (show iblk m c 28 t = V m c main_cst_19 from
    funext fun i => congrArg (V m c main_cst_19) (funext fun a => Fin.ext (emb_same 28 t i a))).trans
    (by unfold V; after_reads_simp; exact lit20_EXPD)
theorem blk_29 (t : Fin cfg0.N) : iblk m c 29 t = V m c main_arg4 :=
  funext fun i => congrArg (V m c main_arg4) (funext fun a => Fin.ext (emb_same 29 t i a))

/-! ## The output -/

/-- What the one grid point leaves in the output block, over the kernel's arguments. -/
theorem outs_value (t : Fin cfg0.N) : outsAt0 (F := Ideal) m c t
    = bodyOut (V m c main_v0) (V m c main_arg1) (V m c main_arg2) (V m c main_arg3) (V m c main_v1) (V m c main_arg7) (V m c main_arg6)
        PAD TILE4 R8 SEL4 TILE16 BLK16 G96 ONEC C1 O1 B2 C2 O2 B3 C3 O3 B4 C4 O4 AMASK QMASK EXPD (V m c main_arg4) := by
  unfold outsAt0 out0_A_30
  rw [View.read_writes_junk_eq_canon, body_out, blk_0, blk_1, blk_2, blk_3, blk_4, blk_5, blk_6, blk_7, blk_8, blk_9, blk_10, blk_11,
    blk_12, blk_13, blk_14, blk_15, blk_16, blk_17, blk_18, blk_19, blk_20, blk_21, blk_22, blk_23, blk_24, blk_25, blk_26, V_v8, blk_27,
    blk_28, blk_29]

end Attn

end
-- ==== Proof.BlockMath.lean ====
/- The mathematics of a block of the attention: the weighted values of a head at a query position, over the positions
   up to it. -/
module

public import proofs.«01_k».proof.Proof.Blocks
public import proofs.«01_k».proof.Proof.Stores
public import proofs.«01_k».proof.Proof.Prep

@[expose] public section

set_option maxRecDepth 16384

noncomputable section

namespace Attn

open Idealize.ShloMosaic Cert.KernelIdeal Cert.KernelIdeal.Gen

/-- Position `n` of block `a`; the column of head `a` of a group at position `n` of a block. -/
def col (a : Fin 4) (n : Fin 512) : Fin 2048 := ⟨512 * a.val + n.val, by omega⟩
/-- Row `r` of group `g`. -/
def grow (g : Fin 3) (r : Fin 32) : Fin 96 := ⟨32 * g.val + r.val, by omega⟩
/-- Head `a` of group `g`. -/
def hd (g : Fin 3) (a : Fin 4) : Fin 12 := ⟨4 * g.val + a.val, by omega⟩

section
variable (kt qt : FVec Ideal S96x2048 .bf16) (vt : FVec Ideal S192x2048 .bf16) (am : FVec Ideal S512x2048 .bf16)
  (qm : FVec Ideal S32x2048 .bf16) (g : Fin 3) (b a : Fin 4)

theorem grp_read (z : FVec Ideal S96x2048 .bf16) (r : Fin 32) (t : Fin 2048) : grp g z (ix2 r t) = z (ix2 (grow g r) t) := by
  pointwise [grp]
  rfl

/-- A block's queries under the columns of head `a`. -/
theorem qblk_read (r : Fin 32) (n : Fin 512) :
    qblk qt qm g b (ix2 r (col a n)) = qt (ix2 (grow g r) (col b n)) * qm (ix2 r (col a n)) := by
  have e : ∀ i : Fin 2048, i.val = 512 * b.val + n.val → grp g qt (ix2 r i) = qt (ix2 (grow g r) (col b n)) := fun i hi => by
    rw [grp_read, show i = col b n from Fin.ext hi]
  have hn := n.isLt
  have hc : (col a n).val = 512 * a.val + n.val := rfl
  pointwise [qblk]
  congr 1
  split
  · exact e _ (by show 512 * b.val + (col a n).val = _; omega)
  · split
    · exact e _ (by show 512 * b.val + ((col a n).val - 512) = _; omega)
    · split
      · exact e _ (by show 512 * b.val + ((col a n).val - 512 - 512) = _; omega)
      · exact e _ (by show 512 * b.val + ((col a n).val - 512 - 512 - 512) = _; omega)

/-- The exponent of key position `k` at query position `t` of a head. -/
def expo (h : Fin 12) (k t : Fin 2048) : EReal := ∑ r : Fin 8, kt (ix2 (row h r) k) * qt (ix2 (row h r) t)

/-- The product over the rows of a group is the product over the rows of the head. -/
theorem group_sum (k : Fin 2048) (n : Fin 512) :
    ∑ r : Fin 32, kt (ix2 (grow g r) k) * qblk qt QMASK g b (ix2 r (col a n)) = expo kt qt (hd g a) k (col b n) := by
  have hn := n.isLt
  have ha := a.isLt
  rw [sum_block (b := 8) _ (8 * a.val) (by omega) fun j hj => by
    rw [qblk_read, show QMASK (ix2 j (col a n)) = 0 from if_neg (by
      show ¬ j.val / 8 = (512 * a.val + n.val) / 512; omega), mul_zero, mul_zero]]
  refine Finset.sum_congr rfl fun r _ => ?_
  rw [qblk_read, show QMASK (ix2 (⟨8 * a.val + r.val, by omega⟩ : Fin 32) (col a n)) = 1 from if_pos (by
      show (8 * a.val + r.val) / 8 = (512 * a.val + n.val) / 512; omega), mul_one,
    show grow g ⟨8 * a.val + r.val, by omega⟩ = row (hd g a) r from Fin.ext (by
      show 32 * g.val + (8 * a.val + r.val) = 8 * (4 * g.val + a.val) + r.val; omega)]

theorem diag_read (k : Fin 512) (j : Fin 2048) : diag kt qt am qm g b (ix2 k j)
    = Ideal.exp2 ((∑ r : Fin 32, kt (ix2 (grow g r) (col b k)) * qblk qt qm g b (ix2 r j)) + am (ix2 k j)) := by
  pointwise [diag]
  simp only [grp_read]
  rfl
theorem past1_read (k : Fin 512) (j : Fin 2048) : past1 kt qt qm g b (ix2 k j)
    = Ideal.exp2 (∑ r : Fin 32, kt (ix2 (grow g r) ⟨k.val, by omega⟩) * qblk qt qm g b (ix2 r j)) := by
  pointwise [past1]
  simp only [grp_read]
  rfl
theorem past2_read (k : Fin 1024) (j : Fin 2048) : past2 kt qt qm g b (ix2 k j)
    = Ideal.exp2 (∑ r : Fin 32, kt (ix2 (grow g r) ⟨k.val, by omega⟩) * qblk qt qm g b (ix2 r j)) := by
  pointwise [past2]
  simp only [grp_read]
  rfl
theorem past3_read (k : Fin 1536) (j : Fin 2048) : past3 kt qt qm g b (ix2 k j)
    = Ideal.exp2 (∑ r : Fin 32, kt (ix2 (grow g r) ⟨k.val, by omega⟩) * qblk qt qm g b (ix2 r j)) := by
  pointwise [past3]
  simp only [grp_read]
  rfl

theorem now_read (c : Fin 17) (n : Fin 512) : now kt qt vt am qm g b a (ix2 c n)
    = ∑ j : Fin 512, vext vt g a (ix2 c (col b j)) * diag kt qt am qm g b (ix2 j (col a n)) := by
  pointwise [now]
  rfl

theorem mask_read (k : Fin 512) (n : Fin 512) : maskOf (F := Ideal) AMASK (ix2 k (col a n)) = if n.val < k.val then ⊥ else 0 := by
  have e : maskOf (F := Ideal) AMASK (ix2 k (col a n))
      = AMASK (ix2 k (col a n)) * (Named.named (F := Ideal) (φ := .bf16) κ "mask" 0xF14A#16 : EReal) := by
    unfold maskOf
    pointwise [k0_pay14, k0_pay13]
  rw [e, named_mask, show AMASK (ix2 k (col a n)) = if n.val < k.val then (1 : EReal) else 0 from if_congr (by
    show (512 * a.val + n.val) % 512 < k.val ↔ _; omega) rfl rfl]
  split <;> simp

theorem before_lt (b : Fin 4) (j : Fin (512 * b.val)) : j.val < 2048 := by omega

/-- A block is its diagonal and the positions before it. -/
theorem acc_split (c : Fin 17) (n : Fin 512) : acc kt qt vt am QMASK g b a (ix2 c n)
    = now kt qt vt am QMASK g b a (ix2 c n) + ∑ j : Fin (512 * b.val), vext vt g a (ix2 c ⟨j.val, before_lt b j⟩)
        * Ideal.exp2 (expo kt qt (hd g a) ⟨j.val, before_lt b j⟩ (col b n)) := by
  match b with
  | ⟨0, _⟩ => exact (add_zero _).symm.trans (congrArg _ (Finset.sum_eq_zero fun j _ => absurd j.isLt (by simp)).symm)
  | ⟨1, _⟩ =>
    pointwise [acc]
    refine congrArg _ (Finset.sum_congr rfl fun j _ => ?_)
    rw [← group_sum]
    exact congrArg _ (past1_read kt qt QMASK g _ j (col a n))
  | ⟨2, _⟩ =>
    pointwise [acc]
    refine congrArg _ (Finset.sum_congr rfl fun j _ => ?_)
    rw [← group_sum]
    exact congrArg _ (past2_read kt qt QMASK g _ j (col a n))
  | ⟨3, _⟩ =>
    pointwise [acc]
    refine congrArg _ (Finset.sum_congr rfl fun j _ => ?_)
    rw [← group_sum]
    exact congrArg _ (past3_read kt qt QMASK g _ j (col a n))

/-- What a block leaves at query position `n` of head `a`: the rows of the values against the exponentials of the
    positions up to the query. -/
theorem acc_read (c : Fin 17) (n : Fin 512) : acc kt qt vt (maskOf AMASK) QMASK g b a (ix2 c n)
    = ∑ k : Fin 2048, vext vt g a (ix2 c k) * (if k.val ≤ (col b n).val then Ideal.exp2 (expo kt qt (hd g a) k (col b n)) else 0) := by
  have hn := n.isLt
  have hb := b.isLt
  refine (acc_split kt qt vt (maskOf AMASK) g b a c n).trans (Eq.trans ?_ (sum_cut (b := 512) (fun k : Fin 2048 => vext vt g a (ix2 c k)
    * (if k.val ≤ (col b n).val then Ideal.exp2 (expo kt qt (hd g a) k (col b n)) else 0)) (512 * b.val) (by omega) fun k hk => by
    rw [if_neg (by show ¬ k.val ≤ 512 * b.val + n.val; omega), mul_zero]).symm)
  congr 1
  · rw [now_read]
    refine Finset.sum_congr rfl fun j _ => ?_
    rw [diag_read, group_sum, mask_read]
    show _ = vext vt g a (ix2 c (col b j)) * (if 512 * b.val + j.val ≤ 512 * b.val + n.val
              then Ideal.exp2 (expo kt qt (hd g a) (col b j) (col b n)) else 0)
    by_cases h : n.val < j.val
    · rw [if_pos h, if_neg (by omega), EReal.add_bot, Ideal.exp2_bot]
    · rw [if_neg h, if_pos (by omega), add_zero]
  · refine Finset.sum_congr rfl fun j _ => ?_
    rw [if_pos (by show j.val ≤ 512 * b.val + n.val; omega)]

theorem vext_value (c : Fin 16) (t : Fin 2048) : vext vt g a (ix2 ⟨c.val, by omega⟩ t) = vt (ix2 (row16 (hd g a) c) t) := by
  have hc := c.isLt
  pointwise [vext]
  exact congrArg (fun i => vt (ix2 i t)) (Fin.ext (by show 64 * g.val + 16 * a.val + c.val = 16 * (4 * g.val + a.val) + c.val; omega))
theorem vext_one (t : Fin 2048) : vext vt g a (ix2 16 t) = 1 := by
  pointwise [vext, k0_pay15]

/-- The weight of key position `k` at query position `t` of a head: nothing beyond the query. -/
def ew (h : Fin 12) (k t : Fin 2048) : EReal := if k.val ≤ t.val then Ideal.exp2 (expo kt qt h k t) else 0

theorem accTop_read (c : Fin 16) (n : Fin 512) : accTop kt qt vt (maskOf AMASK) QMASK g b a (ix2 c n)
    = ∑ k : Fin 2048, vt (ix2 (row16 (hd g a) c) k) * ew kt qt (hd g a) k (col b n) := by
  have e : accTop kt qt vt (maskOf AMASK) QMASK g b a (ix2 c n)
      = acc kt qt vt (maskOf AMASK) QMASK g b a (ix2 ⟨c.val, by omega⟩ n) := by pointwise [accTop]
  rw [e, acc_read]
  simp only [vext_value]
  rfl
theorem accSum_read (n : Fin 512) : accSum kt qt vt (maskOf AMASK) QMASK g b a (ix2 0 n)
    = ∑ k : Fin 2048, ew kt qt (hd g a) k (col b n) := by
  have e : accSum kt qt vt (maskOf AMASK) QMASK g b a (ix2 0 n)
      = acc kt qt vt (maskOf AMASK) QMASK g b a (ix2 16 n) := by pointwise [accSum]
  rw [e, acc_read]
  simp only [vext_one, one_mul]
  rfl

end

end Attn

end
-- ==== Proof.ScratchArrays.lean ====
/- What the scratch arrays hold after the stores, and the output over them. -/
module

public import proofs.«01_k».proof.Proof.BlockMath
public import Idealize.ShloMosaic.Lib.Pipeline.Value

@[expose] public section

set_option maxRecDepth 16384

noncomputable section

namespace Attn

open Idealize.ShloMosaic Cert.KernelIdeal Cert.KernelIdeal.Gen

section
variable (kt qt : FVec Ideal S96x2048 .bf16) (vt : FVec Ideal S192x2048 .bf16)

/-- The head of a row of sixteen. -/
def headOf (i : Fin 192) : Fin 12 := ⟨i.val / 16, by omega⟩

/-- The values weighted, and the weights summed, over the positions. -/
def topOut (i : Fin 192) (t : Fin 2048) : EReal := ∑ k : Fin 2048, vt (ix2 i k) * ew kt qt (headOf i) k t
def sumOut (h : Fin 12) (t : Fin 2048) : EReal := ∑ k : Fin 2048, ew kt qt h k t

/-- The weighted values of every head at every position. -/
theorem top_value (h : Fin 12) (c : Fin 16) (t : Fin 2048) :
    View.canon (Val := Elt Ideal) (tiles.map (topPiece kt qt vt (maskOf AMASK) QMASK)) (ix2 (row16 h c) t)
      = ∑ k : Fin 2048, vt (ix2 (row16 h c) k) * ew kt qt h k t := by
  have hh := h.isLt
  have hc := c.isLt
  have ht := t.isLt
  refine (View.canon_apply_of_pieces (Val := Elt Ideal) (e := .f32) (fun y : S192x2048.Idx => topOut kt qt vt (y 0) (y 1)) _ ?_ (ix2 (row16 h c) t) ?_).trans ?_
  · intro p hp x
    obtain ⟨⟨g, b, a⟩, -, rfl⟩ := List.mem_map.mp hp
    obtain ⟨i, n, rfl⟩ : ∃ (i : Fin 16) (n : Fin 512), x = ix2 i n := ⟨x 0, x 1, eq_ix2 x⟩
    refine (accTop_read kt qt vt g b a i n).trans ?_
    have hi := i.isLt
    have e0 : row16 (hd g a) i = ((topPiece kt qt vt (maskOf AMASK) QMASK (g, b, a)).1.emb (ix2 i n)) 0 :=
      Fin.ext (by show 16 * (4 * g.val + a.val) + i.val = 64 * g.val + 16 * a.val + 1 * i.val; omega)
    have e1 : col b n = ((topPiece kt qt vt (maskOf AMASK) QMASK (g, b, a)).1.emb (ix2 i n)) 1 :=
      Fin.ext (by show 512 * b.val + n.val = 512 * b.val + 1 * n.val; omega)
    refine Eq.trans ?_ (congrArg₂ (topOut kt qt vt) e0 e1)
    refine Finset.sum_congr rfl fun k _ => congrArg (fun h => vt (ix2 (row16 (hd g a) i) k) * ew kt qt h k (col b n)) (Fin.ext ?_)
    show 4 * g.val + a.val = (16 * (4 * g.val + a.val) + i.val) / 16
    omega
  · refine ⟨topPiece kt qt vt (maskOf AMASK) QMASK (⟨h.val / 4, by omega⟩, ⟨t.val / 512, by omega⟩, ⟨h.val % 4, by omega⟩),
      List.mem_map_of_mem (mem_tiles _), ?_⟩
    unfold topPiece
    rw [Rect.mem_set_unit]
    intro x
    match x with
    | ⟨0, _⟩ =>
      show 64 * (h.val / 4) + 16 * (h.val % 4) ≤ 16 * h.val + c.val ∧ 16 * h.val + c.val < 64 * (h.val / 4) + 16 * (h.val % 4) + 16
      omega
    | ⟨1, _⟩ => show 512 * (t.val / 512) ≤ t.val ∧ t.val < 512 * (t.val / 512) + 512; omega
  · refine Finset.sum_congr rfl fun k _ => congrArg (fun i => vt (ix2 (row16 h c) k) * ew kt qt i k t) (Fin.ext ?_)
    show (16 * h.val + c.val) / 16 = h.val
    omega

/-- The sum of the weights of every head at every position. -/
theorem sum_value (h : Fin 12) (t : Fin 2048) :
    View.canon (Val := Elt Ideal) (tiles.map (sumPiece kt qt vt (maskOf AMASK) QMASK)) (ix2 h t)
      = ∑ k : Fin 2048, ew kt qt h k t := by
  have hh := h.isLt
  have ht := t.isLt
  refine View.canon_apply_of_pieces (Val := Elt Ideal) (e := .f32) (fun y : S12x2048.Idx => sumOut kt qt (y 0) (y 1)) _ ?_ (ix2 h t) ?_
  · intro p hp x
    obtain ⟨⟨g, b, a⟩, -, rfl⟩ := List.mem_map.mp hp
    obtain ⟨i, n, rfl⟩ : ∃ (i : Fin 1) (n : Fin 512), x = ix2 i n := ⟨x 0, x 1, eq_ix2 x⟩
    obtain rfl : i = 0 := Fin.ext (by omega)
    refine (accSum_read kt qt vt g b a n).trans ?_
    have e0 : hd g a = ((sumPiece kt qt vt (maskOf AMASK) QMASK (g, b, a)).1.emb (ix2 0 n)) 0 :=
      Fin.ext (by show 4 * g.val + a.val = 4 * g.val + a.val + 1 * 0; omega)
    have e1 : col b n = ((sumPiece kt qt vt (maskOf AMASK) QMASK (g, b, a)).1.emb (ix2 0 n)) 1 :=
      Fin.ext (by show 512 * b.val + n.val = 512 * b.val + 1 * n.val; omega)
    exact congrArg₂ (sumOut kt qt) e0 e1
  · refine ⟨sumPiece kt qt vt (maskOf AMASK) QMASK (⟨h.val / 4, by omega⟩, ⟨t.val / 512, by omega⟩, ⟨h.val % 4, by omega⟩),
      List.mem_map_of_mem (mem_tiles _), ?_⟩
    unfold sumPiece
    rw [Rect.mem_set_unit]
    intro x
    match x with
    | ⟨0, _⟩ => show 4 * (h.val / 4) + h.val % 4 ≤ h.val ∧ h.val < 4 * (h.val / 4) + h.val % 4 + 1; omega
    | ⟨1, _⟩ => show 512 * (t.val / 512) ≤ t.val ∧ t.val < 512 * (t.val / 512) + 512; omega

end

/-- The last product, over the two scratch arrays. -/
theorem pay229_read (l : FVec Ideal S12x2048 .f32) (o : FVec Ideal S192x2048 .f32) (w : FVec Ideal S768x192 .f32) (t : Fin 2048)
    (j : Fin 768) : k0_pay229 (F := Ideal) EXPD l o w (ix3 0 t j)
      = ∑ i : Fin 192, (o (ix2 i t) * ∑ h : Fin 12, EXPD (ix2 i h) * Ideal.div 1 (l (ix2 h t))) * w (ix2 j i) := by
  pointwise [k0_pay229]

theorem expd_sum (f : Fin 12 → EReal) (h : Fin 12) (c : Fin 16) : ∑ k : Fin 12, EXPD (ix2 (row16 h c) k) * f k = f h := by
  refine sum_pick f _ _ (if_pos ?_) fun j hj => if_neg fun e => hj (Fin.ext ?_)
  · show (16 * h.val + c.val) / 16 = h.val; omega
  · have e' : (16 * h.val + c.val) / 16 = j.val := e
    omega

end Attn

end
-- ==== Proof.Attention.lean ====
/- The attention that both programs compute, and the kernel's output as that attention. -/
module

public import proofs.«01_k».proof.Proof.ScratchArrays

@[expose] public section

set_option maxRecDepth 16384

noncomputable section

namespace Attn

open Idealize.ShloMosaic Cert.KernelIdeal Cert.KernelIdeal.Gen

section
variable (x : FVec Ideal S2048x768 .f32) (wq wk : FVec Ideal S48x768 .f32) (wv : FVec Ideal S192x768 .f32)
  (wn : FVec Ideal S48x4 .f32) (roots : FVec Ideal S4x4 .f32) (cb : FVec Ideal S12x16 .f32) (wo : FVec Ideal S768x192 .f32)

/-- The bonus of a key position. -/
def kbonus (h : Fin 12) (k : Fin 2048) : EReal := bonus cb (sgn roots (unitv wk x h k)) h

/-- The score of a key position at a query position. -/
def score (h : Fin 12) (t k : Fin 2048) : EReal :=
  (∑ d : Fin 4, query wn wq x h t d * unitv wk x h k d) * ((1 / 2 : ℝ) : EReal) + kbonus x wk roots cb h k

/-- The share of a key position at a query position: the softmax over the positions up to the query. -/
def share (h : Fin 12) (t k : Fin 2048) : EReal :=
  ((wt (fun k => k.val ≤ t.val) (fun k => (score x wq wk wn roots cb h t k).toReal) k
    / ∑ j, wt (fun k => k.val ≤ t.val) (fun k => (score x wq wk wn roots cb h t k).toReal) j : ℝ) : EReal)

/-- The output of both programs. -/
def attention (t : Fin 2048) (j : Fin 768) : EReal :=
  ∑ i : Fin 192, (∑ k : Fin 2048, share x wq wk wn roots cb (headOf i) t k * valv wv x k i) * wo (ix2 j i)

theorem unitv_isR (h : Fin 12) (t : Fin 2048) (d : Fin 4) : IsR (unitv wk x h t d) := nrm_isR (proj wk x h t) d
theorem query_isR (h : Fin 12) (t : Fin 2048) (d : Fin 4) : IsR (query wn wq x h t d) := nrm_isR (rotq wn wq x h t) d

theorem bitf_isR {s : EReal} (hs : IsR s) (b : ℕ) : IsR (bitf s b) := by
  unfold bitf
  split
  · exact hs
  · exact IsR.one.sub hs

/-- The bonus is a real number where the table of bonuses is real. -/
theorem kbonus_isR (hcb : ∀ h c, IsR (cb (ix2 h c))) (h : Fin 12) (k : Fin 2048) : IsR (kbonus x wk roots cb h k) :=
  have hs : ∀ r, IsR (sgn roots (unitv wk x h k) r) := fun r => logistic_isR _
  IsR.sum Finset.univ (fun c : Fin 16 => cb (ix2 h c) * chamber (sgn roots (unitv wk x h k)) c.val) fun c =>
    (hcb h c).mul ((((bitf_isR (hs 0) _).mul (bitf_isR (hs 1) _)).mul (bitf_isR (hs 2) _)).mul (bitf_isR (hs 3) _))

theorem score_isR (hcb : ∀ h c, IsR (cb (ix2 h c))) (h : Fin 12) (t k : Fin 2048) : IsR (score x wq wk wn roots cb h t k) :=
  ((IsR.sum _ _ fun d => (query_isR x wq wn h t d).mul (unitv_isR x wk h k d)).mul (IsR.coe _)).add
    (kbonus_isR x wk roots cb hcb h k)

theorem score_real (hcb : ∀ h c, IsR (cb (ix2 h c))) (h : Fin 12) (t k : Fin 2048) :
    score x wq wk wn roots cb h t k = (((score x wq wk wn roots cb h t k).toReal : ℝ) : EReal) :=
  (EReal.coe_toReal (score_isR x wq wk wn roots cb hcb h t k).ne_top (score_isR x wq wk wn roots cb hcb h t k).ne_bot).symm

/-- The padded rows of a key against those of a query: the score over the logarithm of two. -/
theorem rows_dot (K Q : Fin 4 → EReal) (b : EReal) (hK : ∀ d, IsR (K d)) (hQ : ∀ d, IsR (Q d)) (hb : IsR b) :
    ∑ r : Fin 8, krow K b r * qrow Q r
      = ((∑ d : Fin 4, Q d * K d) * ((1 / 2 : ℝ) : EReal) + b) * (((Real.log 2)⁻¹ : ℝ) : EReal) := by
  choose K' hK' using hK
  choose Q' hQ' using hQ
  obtain ⟨b', rfl⟩ := hb
  obtain rfl : K = fun d => ((K' d : ℝ) : EReal) := funext hK'
  obtain rfl : Q = fun d => ((Q' d : ℝ) : EReal) := funext hQ'
  rw [sum_block (b := 5) _ 0 (by omega) fun j hj => by
    rw [krow, dif_neg (by omega), if_neg (by omega), zero_mul]]
  rw [Fin.sum_univ_five, Fin.sum_univ_four]
  show (K' 0 : EReal) * ((Q' 0 : EReal) * (scl : EReal)) + (K' 1 : EReal) * ((Q' 1 : EReal) * (scl : EReal))
    + (K' 2 : EReal) * ((Q' 2 : EReal) * (scl : EReal)) + (K' 3 : EReal) * ((Q' 3 : EReal) * (scl : EReal))
    + (b' : EReal) * (((Real.log 2)⁻¹ : ℝ) : EReal) = _
  unfold scl
  simp only [← EReal.coe_mul, ← EReal.coe_add]
  exact congrArg _ (by ring)

/-- The kernel's keys and queries. -/
def keysT : FVec Ideal S96x2048 .bf16 := keysOf x wk roots cb PAD TILE4 R8 SEL4 TILE16 BLK16 G96 C1 O1 B2 C2 O2 B3 C3 O3 B4 C4 O4
def queriesT : FVec Ideal S96x2048 .bf16 := queriesOf x wq wn PAD TILE4 G96 ONEC

theorem keysT_row (h : Fin 12) (r : Fin 8) (t : Fin 2048) :
    keysT x wk roots cb (ix2 (row h r) t) = krow (unitv wk x h t) (kbonus x wk roots cb h t) r := keys_row x wk roots cb h r t
theorem queriesT_row (h : Fin 12) (r : Fin 8) (t : Fin 2048) :
    queriesT x wq wn (ix2 (row h r) t) = qrow (query wn wq x h t) r := pay6_row x wq wn h r t
theorem valuesOf_row (i : Fin 192) (t : Fin 2048) : valuesOf x wv (ix2 i t) = valv wv x t i := pay3_row x wv i t

/-- The kernel's weight of a key position is `e` to its score. -/
theorem ew_value (hcb : ∀ h c, IsR (cb (ix2 h c))) (h : Fin 12) (t k : Fin 2048) :
    ew (keysT x wk roots cb) (queriesT x wq wn) h k t
      = ((wt (fun k => k.val ≤ t.val) (fun k => (score x wq wk wn roots cb h t k).toReal) k : ℝ) : EReal) := by
  unfold ew wt
  split
  · have e : expo (keysT x wk roots cb) (queriesT x wq wn) h k t
        = (((score x wq wk wn roots cb h t k).toReal * (Real.log 2)⁻¹ : ℝ) : EReal) := by
      unfold expo
      simp only [keysT_row, queriesT_row]
      rw [rows_dot _ _ _ (unitv_isR x wk h k) (query_isR x wq wn h t) (kbonus_isR x wk roots cb hcb h k), EReal.coe_mul,
        ← score_real x wq wk wn roots cb hcb h t k]
      rfl
    rw [e, exp2_eq_exp]
  · rfl

/-- The kernel's output is the attention, where the table of bonuses is real. -/
theorem body_value (hcb : ∀ h c, IsR (cb (ix2 h c))) (t : Fin 2048) (j : Fin 768) :
    bodyOut (F := Ideal) x wq wk wv wn roots cb PAD TILE4 R8 SEL4 TILE16 BLK16 G96 ONEC C1 O1 B2 C2 O2 B3 C3 O3 B4 C4 O4 AMASK QMASK
      EXPD wo (ix3 0 t j) = attention x wq wk wv wn roots cb wo t j := by
  unfold bodyOut
  rw [pay229_read]
  refine Finset.sum_congr rfl fun i _ => congrArg (· * wo (ix2 j i)) ?_
  obtain ⟨h, c, rfl⟩ : ∃ (h : Fin 12) (c : Fin 16), i = row16 h c :=
    ⟨⟨i.val / 16, by omega⟩, ⟨i.val % 16, by omega⟩, Fin.ext (by show i.val = 16 * (i.val / 16) + i.val % 16; omega)⟩
  have eh : headOf (row16 h c) = h := Fin.ext (by show (16 * h.val + c.val) / 16 = h.val; omega)
  rw [expd_sum, eh]
  refine (congrArg₂ (fun a b => a * Ideal.div 1 b) (top_value _ _ _ h c t) (sum_value _ _ _ h t)).trans ?_
  have e : ∀ k, ew (keysOf x wk roots cb PAD TILE4 R8 SEL4 TILE16 BLK16 G96 C1 O1 B2 C2 O2 B3 C3 O3 B4 C4 O4)
      (queriesOf x wq wn PAD TILE4 G96 ONEC) h k t
      = ((wt (fun k => k.val ≤ t.val) (fun k => (score x wq wk wn roots cb h t k).toReal) k : ℝ) : EReal) :=
    ew_value x wq wk wn roots cb hcb h t
  simp only [e, valuesOf_row]
  exact weighted_sum _ _ (fun k => valv wv x k (row16 h c)) t (le_refl _)

end

end Attn

end
-- ==== Proof.IdealValue.lean ====
/- The kernel's result: the output array after any run of the idealised kernel is the attention of the arguments. -/
module

public import proofs.«01_k».proof.Proof.HostVals
public import proofs.«01_k».proof.Proof.Attention

@[expose] public section

set_option maxRecDepth 16384

noncomputable section

namespace Attn

open Idealize.ShloMosaic Idealize.ShloMosaic.TcCoe Idealize.SL Idealize.SL.Sem Cert.KernelIdeal Cert.KernelIdeal.Gen Cert.KernelIdeal.Launch

variable (m : (ℓ : Loc nD τ sig) → Buf (Elt Ideal) ℓ) (ρ : Dev nD → PrngReg)

/-- There is one grid point, so no two blocks of the output meet. -/
theorem out_disjoint : ∀ t t' : Fin cfg0.N, (cfg0.win 30).flush t = true → (cfg0.win 30).flush t' = true → t ≠ t' →
    Disjoint ((cfg0.win 30).blk t).view.set ((cfg0.win 30).blk t').view.set := by
  intro t t' _ _ hne
  exact absurd (by revert t t'; decide) hne

/-- The output array after the run is what the one grid point left in its block. -/
theorem out_array (c : Dev nD) : ((dats (F := Ideal) m 0 c).arrAt 30 cfg0.N : FVec Ideal S1x2048x768 .f32)
    = outsAt0 (F := Ideal) m c ⟨0, by decide⟩ := by
  have hf : (cfg0.win 30).flush (⟨0, by decide⟩ : Fin cfg0.N) = true := by decide
  have h := (dats (F := Ideal) m 0 c).read_blk_arrAt_eq_flushed 30 out_disjoint cfg0.N ⟨0, by decide⟩ (by decide) hf
  have hc : (dats (F := Ideal) m 0 c).flushed 30 ⟨0, by decide⟩
      = (cfg0.win 30).cut (grid0.coords ⟨0, by decide⟩) (outsAt0 (F := Ideal) m c ⟨0, by decide⟩) := by
    show (cfg0.win 30).cut (grid0.coords _) ((dats (F := Ideal) m 0 c).after 30 ⟨0, by decide⟩) = _
    rw [after0_30]
  rw [hc] at h
  generalize (dats (F := Ideal) m 0 c).arrAt 30 cfg0.N = A at h ⊢
  generalize outsAt0 (F := Ideal) m c ⟨0, by decide⟩ = X at h ⊢
  funext i
  exact (congrArg A (funext fun a => Fin.ext (emb_same 30 ⟨0, by decide⟩ i a).symm)).trans (congrFun h i)

/-- Every run of the idealised kernel ends with its result at `bodyOut` of the arrays it stages, and the arguments as they were. -/
theorem kernel_run : θ_run defs (onTc (τ := τ) (main (F := Ideal))) ⟨m, fun _ => 0, ρ⟩ (fun r => ∀ c : Dev nD,
      r.2.mem ((c.tc : Thread nD τ).loc main_v9) = outsAt0 (F := Ideal) m c ⟨0, by decide⟩
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  (θ_run defs _ _).mono (fun _ h c => ⟨((h.1 c).1 30).trans (out_array m c), h.2 c⟩) (θ_run_and (run_main m ρ) (unchanged m ρ))

/-- What the run leaves is the attention of the arguments, where the table of bonuses is real. -/
theorem kernel_value (c : Dev nD)
    (hcb : ∀ h k, IsR ((m ((c.tc : Thread nD τ).loc main_arg6) : FVec Ideal S12x16 .f32) (ix2 h k))) (t : Fin 2048) (j : Fin 768) :
    outsAt0 (F := Ideal) m c ⟨0, by decide⟩ (ix3 0 t j)
      = attention (shapeCast S2048x768 (m ((c.tc : Thread nD τ).loc main_arg0) : FVec Ideal S1x2048x768 .f32) shapeCasts_S1x2048x768_S2048x768)
          (m ((c.tc : Thread nD τ).loc main_arg1)) (m ((c.tc : Thread nD τ).loc main_arg2)) (m ((c.tc : Thread nD τ).loc main_arg3))
          (shapeCast S48x4 (m ((c.tc : Thread nD τ).loc main_arg5) : FVec Ideal S12x4x4 .f32) shapeCasts_S12x4x4_S48x4)
          (m ((c.tc : Thread nD τ).loc main_arg7)) (m ((c.tc : Thread nD τ).loc main_arg6)) (m ((c.tc : Thread nD τ).loc main_arg4)) t j := by
  rw [outs_value, V_v0, V_v1, V_main_arg1, V_main_arg2, V_main_arg3, V_main_arg4, V_main_arg6, V_main_arg7]
  exact body_value _ _ _ _ _ _ _ _ hcb t j

end Attn

end
-- ==== Proof.RefValue.lean ====
/- The reference program read at an index: its result is the attention. -/
module

public import proofs.«01_k».proof.Proof.Attention
public import proofs.«01_k».proof.Proof.Gen.ReferenceIdeal.Read

@[expose] public section

set_option maxRecDepth 16384

noncomputable section

namespace Attn

open Idealize.ShloMosaic Cert.ReferenceIdeal Cert.ReferenceIdeal.Gen Cert.ReferenceIdeal.Read

/-! ## Constants and bits -/

theorem half_f32 : Ideal.ofBits .f32 0x3F000000#32 = ((1 / 2 : ℝ) : EReal) := by
  simp [Ideal.ofBits, Ideal.ieee]
  norm_num
  norm_cast
  norm_num
theorem ninf_f32 : Ideal.ofBits .f32 0xFF800000#32 = ⊥ := by
  simp [Ideal.ofBits, Ideal.ieee]

/-- The bit `n` of a chamber. -/
def bitw (c : Fin 16) (n : BitVec 32) : BitVec 32 := IntOp.andi (IntOp.shrsi .host (BitVec.ofNat 32 c.val) n) 1#32

theorem bitw_eq (c : Fin 16) (n : Fin 4) : bitw c (BitVec.ofNat 32 n.val) = BitVec.ofNat 32 (c.val / 2 ^ n.val % 2) := by
  revert c n; decide

/-- A soft sign against a bit, and its complement against the bit's complement, is the factor of that bit. -/
theorem bit_factor (s : EReal) (c : Fin 16) (n : Fin 4) (w : BitVec 32) (hw : w = BitVec.ofNat 32 n.val) :
    s * FloatOps.sitofp (F := Ideal) .f32 (bitw c w) + (1 - s) * (1 - FloatOps.sitofp (F := Ideal) .f32 (bitw c w))
      = bitf s (c.val / 2 ^ n.val % 2) := by
  subst hw
  rw [bitw_eq]
  have e0 : (FloatOps.sitofp (F := Ideal) .f32 (BitVec.ofNat 32 0) : EReal) = 0 := by
    show (((BitVec.ofNat 32 0).toInt : ℝ) : EReal) = 0
    simp
  have e1 : (FloatOps.sitofp (F := Ideal) .f32 (BitVec.ofNat 32 1) : EReal) = 1 := by
    show (((BitVec.ofNat 32 1).toInt : ℝ) : EReal) = 1
    simp
  unfold bitf
  rcases Nat.mod_two_eq_zero_or_one (c.val / 2 ^ n.val) with h | h
  · rw [h, e0, mul_zero, zero_add, sub_zero, mul_one, if_neg (by decide)]
  · rw [h, e1, mul_one, if_pos rfl, show (1 : EReal) - 1 = 0 from (EReal.coe_sub 1 1).symm.trans (by rw [sub_self]; rfl), mul_zero, add_zero]

/-- The causal test of the reference. -/
theorem causal_bit (t k : Fin 2048) : IntOp.cmpi .sge (IntOp.addi (BitVec.ofNat 32 t.val) 0#32) (BitVec.ofNat 32 k.val)
    = BitVec.ofBool (decide (k.val ≤ t.val)) := by
  have ht := t.isLt
  have hk := k.isLt
  have t1 : (BitVec.ofNat 32 t.val).toNat = t.val := by rw [BitVec.toNat_ofNat, Nat.mod_eq_of_lt (by omega)]
  have t2 : (BitVec.ofNat 32 k.val).toNat = k.val := by rw [BitVec.toNat_ofNat, Nat.mod_eq_of_lt (by omega)]
  show BitVec.ofBool ((BitVec.ofNat 32 k.val).sle (BitVec.ofNat 32 t.val + 0#32)) = _
  rw [BitVec.add_zero, BitVec.sle, BitVec.toInt_eq_toNat_of_lt (by rw [t2]; omega), BitVec.toInt_eq_toNat_of_lt (by rw [t1]; omega), t1, t2]
  exact congrArg BitVec.ofBool (decide_eq_decide.mpr (by omega))

/-! ## The reference's buffers -/

section
variable (x0 : FVec Ideal S1x2048x768 .f32) (x1 x2 : FVec Ideal S48x768 .f32) (x3 : FVec Ideal S192x768 .f32)
  (x4 : FVec Ideal S768x192 .f32) (x5 : FVec Ideal S12x4x4 .f32) (x6 : FVec Ideal S12x16 .f32) (x7 : FVec Ideal S4x4 .f32)

theorem r_v2 (t : Fin 2048) (h : Fin 12) (d : Fin 4) : val_main_v2 (F := Ideal) x0 x1 (ix4 0 t h d)
    = ∑ k : Fin 768, x0 (ix3 0 t k) * x1 (ix2 (chan h d) k) := by
  pointwise [val_main_v2, val_main_v1, val_main_v0]
  exact Finset.sum_congr rfl fun k _ => congrArg (fun i => x0 (ix3 0 t k) * x1 (ix2 i k)) (Fin.ext (by
    show h.val * 4 + d.val = 4 * h.val + d.val; omega))
theorem r_v8 (t : Fin 2048) (h : Fin 12) (c : Fin 16) : val_main_v8 (F := Ideal) x0 x3 (ix4 0 t h c)
    = ∑ k : Fin 768, x0 (ix3 0 t k) * x3 (ix2 (row16 h c) k) := by
  pointwise [val_main_v8, val_main_v7, val_main_v6]
  exact Finset.sum_congr rfl fun k _ => congrArg (fun i => x0 (ix3 0 t k) * x3 (ix2 i k)) (Fin.ext (by
    show h.val * 16 + c.val = 16 * h.val + c.val; omega))
theorem r_v13 (t : Fin 2048) (h : Fin 12) (d : Fin 4) : val_main_v13 (F := Ideal) x0 x1 (ix4 0 t h d)
    = nrm (val_main_v2 (F := Ideal) x0 x1 (ix4 0 t h d))
      (∑ e : Fin 4, val_main_v2 (F := Ideal) x0 x1 (ix4 0 t h e) * val_main_v2 (F := Ideal) x0 x1 (ix4 0 t h e)) := by
  unfold nrm eps
  pointwise [val_main_v13, val_main_v12, val_main_v11, val_main_v9, val_main_call0_v2, val_main_call0_v1, val_main_call0_v0,
    val_main_v10, val_main_cst, val_main_call0_cst]
/-- The keys are normalised as the queries are. -/
theorem r_v18 : val_main_v18 (F := Ideal) x0 x2 = val_main_v13 (F := Ideal) x0 x2 := rfl
theorem r_v20 (t : Fin 2048) (h : Fin 12) (e : Fin 4) : val_main_v20 (F := Ideal) x0 x1 x5 (ix4 0 t h e)
    = ∑ d : Fin 4, x5 (ix3 h d e) * val_main_v13 (F := Ideal) x0 x1 (ix4 0 t h d) := by
  pointwise [val_main_v20, val_main_v19]
theorem r_v25 (t : Fin 2048) (h : Fin 12) (d : Fin 4) : val_main_v25 (F := Ideal) x0 x1 x5 (ix4 0 t h d)
    = nrm (val_main_v20 (F := Ideal) x0 x1 x5 (ix4 0 t h d))
      (∑ e : Fin 4, val_main_v20 (F := Ideal) x0 x1 x5 (ix4 0 t h e) * val_main_v20 (F := Ideal) x0 x1 x5 (ix4 0 t h e)) := by
  unfold nrm eps
  pointwise [val_main_v25, val_main_v24, val_main_v23, val_main_v21, val_main_call2_v2, val_main_call2_v1, val_main_call2_v0,
    val_main_v22, val_main_cst_1, val_main_call2_cst]
theorem r_v28 (h : Fin 12) (t k : Fin 2048) : val_main_v28 (F := Ideal) x0 x1 x2 x5 (ix4 0 h t k)
    = (∑ d : Fin 4, val_main_v25 (F := Ideal) x0 x1 x5 (ix4 0 t h d) * val_main_v18 (F := Ideal) x0 x2 (ix4 0 k h d))
      * ((1 / 2 : ℝ) : EReal) := by
  rw [← half_f32]
  pointwise [val_main_v28, val_main_v27, val_main_v26, val_main_cst_2]
theorem r_v37 (t : Fin 2048) (h : Fin 12) (r : Fin 4) : val_main_v37 (F := Ideal) x0 x2 x7 (ix4 0 t h r)
    = Ideal.logistic ((∑ d : Fin 4, val_main_v18 (F := Ideal) x0 x2 (ix4 0 t h d) * x7 (ix2 r d)) * 3) := by
  rw [← three_f32]
  pointwise [val_main_v37, val_main_v36, val_main_v35, val_main_v34, val_main_v33, val_main_v32, val_main_v31, val_main_v30,
    val_main_v29, val_main_cst_3, val_main_cst_4, val_main_cst_5]
  rfl

/-! The four bit factors. -/

theorem r_v60 (t : Fin 2048) (h : Fin 12) (c : Fin 16) : val_main_v60 (F := Ideal) x0 x2 x7 (ix4 0 t h c)
    = bitf (val_main_v37 (F := Ideal) x0 x2 x7 (ix4 0 t h 0)) (c.val % 2) := by
  pointwise [val_main_v60, val_main_v59, val_main_v58, val_main_v57, val_main_v56, val_main_v55, val_main_v54, val_main_v53, val_main_v52,
    val_main_v51, val_main_v50, val_main_v49, val_main_v48, val_main_v47, val_main_v46, val_main_v45, val_main_v44, val_main_v43,
    val_main_v42, val_main_v41, val_main_v40, val_main_v39, val_main_cst_8, val_main_cst_9, val_main_c, val_main_c_7]
  exact (bit_factor _ c 0 _ rfl).trans (by rw [show c.val / 2 ^ (0 : Fin 4).val = c.val from Nat.div_one _])
theorem r_v83 (t : Fin 2048) (h : Fin 12) (c : Fin 16) : val_main_v83 (F := Ideal) x0 x2 x7 (ix4 0 t h c)
    = bitf (val_main_v37 (F := Ideal) x0 x2 x7 (ix4 0 t h 1)) (c.val / 2 % 2) := by
  pointwise [val_main_v83, val_main_v82, val_main_v81, val_main_v80, val_main_v79, val_main_v78, val_main_v77, val_main_v76, val_main_v75,
    val_main_v74, val_main_v73, val_main_v72, val_main_v71, val_main_v70, val_main_v69, val_main_v68, val_main_v67, val_main_v66,
    val_main_v65, val_main_v64, val_main_v63, val_main_v62, val_main_cst_12, val_main_cst_13, val_main_c_10, val_main_c_11]
  exact bit_factor _ c 1 _ rfl
theorem r_v106 (t : Fin 2048) (h : Fin 12) (c : Fin 16) : val_main_v106 (F := Ideal) x0 x2 x7 (ix4 0 t h c)
    = bitf (val_main_v37 (F := Ideal) x0 x2 x7 (ix4 0 t h 2)) (c.val / 4 % 2) := by
  pointwise [val_main_v106, val_main_v105, val_main_v104, val_main_v103, val_main_v102, val_main_v101, val_main_v100, val_main_v99,
    val_main_v98, val_main_v97, val_main_v96, val_main_v95, val_main_v94, val_main_v93, val_main_v92, val_main_v91, val_main_v90,
    val_main_v89, val_main_v88, val_main_v87, val_main_v86, val_main_v85, val_main_cst_16, val_main_cst_17, val_main_c_14, val_main_c_15]
  exact bit_factor _ c 2 _ rfl
theorem r_v129 (t : Fin 2048) (h : Fin 12) (c : Fin 16) : val_main_v129 (F := Ideal) x0 x2 x7 (ix4 0 t h c)
    = bitf (val_main_v37 (F := Ideal) x0 x2 x7 (ix4 0 t h 3)) (c.val / 8 % 2) := by
  pointwise [val_main_v129, val_main_v128, val_main_v127, val_main_v126, val_main_v125, val_main_v124, val_main_v123, val_main_v122,
    val_main_v121, val_main_v120, val_main_v119, val_main_v118, val_main_v117, val_main_v116, val_main_v115, val_main_v114, val_main_v113,
    val_main_v112, val_main_v111, val_main_v110, val_main_v109, val_main_v108, val_main_cst_20, val_main_cst_21, val_main_c_18, val_main_c_19]
  exact bit_factor _ c 3 _ rfl

theorem r_v134 (t : Fin 2048) (h : Fin 12) : val_main_v134 (F := Ideal) x0 x2 x6 x7 (ix3 0 t h)
    = ∑ c : Fin 16, val_main_v60 (F := Ideal) x0 x2 x7 (ix4 0 t h c) * val_main_v83 (F := Ideal) x0 x2 x7 (ix4 0 t h c)
     * val_main_v106 (F := Ideal) x0 x2 x7 (ix4 0 t h c) * val_main_v129 (F := Ideal) x0 x2 x7 (ix4 0 t h c) * x6 (ix2 h c) := by
  pointwise [val_main_v134, val_main_v133, val_main_v132, val_main_v131, val_main_v130, val_main_v107, val_main_v84, val_main_v61,
    val_main_v38, val_main_cst_6, val_main_cst_22]

/-- The masked scores. -/
theorem r_v142 (h : Fin 12) (t k : Fin 2048) : val_main_v142 (F := Ideal) x0 x1 x2 x5 x6 x7 (ix4 0 h t k)
    = if k.val ≤ t.val then val_main_v28 (F := Ideal) x0 x1 x2 x5 (ix4 0 h t k) + val_main_v134 (F := Ideal) x0 x2 x6 x7 (ix3 0 k h)
      else ⊥ := by
  pointwise [val_main_v142, val_main_call4_v0, val_main_call4_v1, val_main_call4_v2, val_main_cst_24, val_main_v141, val_main_v140,
    val_main_call3_v0, val_main_call3_v1, val_main_call3_v2, val_main_call3_v3, val_main_call3_v4, val_main_call3_v5, val_main_call3_c,
    val_main_call3_c_0, val_main_v139, val_main_c_23, val_main_v138, val_main_v137, val_main_v136, val_main_v135]
  rw [causal_bit, ← ninf_f32]
  by_cases hk : k.val ≤ t.val
  · rw [decide_eq_true hk, if_pos hk]; rfl
  · rw [decide_eq_false hk, if_neg hk]; rfl

/-- The largest score of a row. -/
theorem r_v143 (h : Fin 12) (t : Fin 2048) : val_main_v143 (F := Ideal) x0 x1 x2 x5 x6 x7 (ix3 0 h t)
    = Finset.univ.fold max ⊥ fun k : Fin 2048 => val_main_v142 (F := Ideal) x0 x1 x2 x5 x6 x7 (ix4 0 h t k) := by
  rw [← ninf_f32]
  pointwise [val_main_v143, val_main_cst_25]

theorem r_v145 (h : Fin 12) (t : Fin 2048) : val_main_v145 (F := Ideal) x0 x1 x2 x5 x6 x7 (ix3 0 h t)
    = val_main_v143 (F := Ideal) x0 x1 x2 x5 x6 x7 (ix3 0 h t) := by
  rw [val_main_v145_apply, val_main_v144_apply]
  generalize val_main_v143 (F := Ideal) x0 x1 x2 x5 x6 x7 (ix3 0 h t) = M
  show max (Ideal.ofBits .f32 0xFF800000#32) M = M
  rw [ninf_f32]
  exact bot_sup_eq M
theorem r_v149 (h : Fin 12) (t k : Fin 2048) : val_main_v149 (F := Ideal) x0 x1 x2 x5 x6 x7 (ix4 0 h t k)
    = Ideal.exp (val_main_v142 (F := Ideal) x0 x1 x2 x5 x6 x7 (ix4 0 h t k)
      - val_main_v143 (F := Ideal) x0 x1 x2 x5 x6 x7 (ix3 0 h t)) := by
  rw [val_main_v149_apply, val_main_v148_apply, val_main_v147_apply, val_main_v146_apply,
    show idx_main_v146 (idx_main_v147 (ix4 0 h t k)) = ix3 0 h t from funext fun a => by fin_cases a <;> rfl, r_v145]
  generalize val_main_v142 (F := Ideal) x0 x1 x2 x5 x6 x7 (ix4 0 h t k) = a
  generalize val_main_v143 (F := Ideal) x0 x1 x2 x5 x6 x7 (ix3 0 h t) = b
  rfl
theorem r_v150 (h : Fin 12) (t : Fin 2048) : val_main_v150 (F := Ideal) x0 x1 x2 x5 x6 x7 (ix3 0 h t)
    = ∑ k : Fin 2048, val_main_v149 (F := Ideal) x0 x1 x2 x5 x6 x7 (ix4 0 h t k) := by
  pointwise [val_main_v150, val_main_cst_27]
theorem r_v153 (h : Fin 12) (t k : Fin 2048) : val_main_v153 (F := Ideal) x0 x1 x2 x5 x6 x7 (ix4 0 h t k)
    = Ideal.div (val_main_v149 (F := Ideal) x0 x1 x2 x5 x6 x7 (ix4 0 h t k)) (val_main_v150 (F := Ideal) x0 x1 x2 x5 x6 x7 (ix3 0 h t)) := by
  pointwise [val_main_v153, val_main_v152, val_main_v151]
theorem r_v162 (t : Fin 2048) (j : Fin 768) : val_main_v162 (F := Ideal) x0 x1 x2 x3 x4 x5 x6 x7 (ix3 0 t j)
    = ∑ i : Fin 192, (∑ k : Fin 2048, val_main_v153 (F := Ideal) x0 x1 x2 x5 x6 x7 (ix4 0 (headOf i) t k)
       * val_main_v8 (F := Ideal) x0 x3 (ix4 0 k (headOf i) ⟨i.val % 16, by omega⟩)) * x4 (ix2 j i) := by
  pointwise [val_main_v162, val_main_v161, val_main_v160, val_main_v159, val_main_v158, val_main_v157, val_main_v156, val_main_v155,
    val_main_v154]
  rfl

/-! ## The reference is the attention -/

variable (x : FVec Ideal Cert.KernelIdeal.S2048x768 .f32) (wn : FVec Ideal Cert.KernelIdeal.S48x4 .f32)

/-- The projection of the reference. -/
theorem r_proj (hx : ∀ t k, x (ix2 t k) = x0 (ix3 0 t k)) (w : FVec Ideal S48x768 .f32) (t : Fin 2048) (h : Fin 12) (d : Fin 4) :
    val_main_v2 (F := Ideal) x0 w (ix4 0 t h d) = proj w x h t d := by
  rw [r_v2]
  exact Finset.sum_congr rfl fun k _ => by rw [hx, mul_comm]

/-- The normalised projection of the reference. -/
theorem r_unitv (hx : ∀ t k, x (ix2 t k) = x0 (ix3 0 t k)) (w : FVec Ideal S48x768 .f32) (t : Fin 2048) (h : Fin 12) (d : Fin 4) :
    val_main_v13 (F := Ideal) x0 w (ix4 0 t h d) = unitv w x h t d := by
  rw [r_v13]
  simp only [r_proj x0 x hx]
  rfl

/-- The rotated query of the reference, normalised again. -/
theorem r_query (hx : ∀ t k, x (ix2 t k) = x0 (ix3 0 t k)) (hw : ∀ h d e, wn (ix2 (chan h d) e) = x5 (ix3 h d e))
    (t : Fin 2048) (h : Fin 12) (e : Fin 4) : val_main_v25 (F := Ideal) x0 x1 x5 (ix4 0 t h e) = query wn x1 x h t e := by
  have hr : ∀ e, val_main_v20 (F := Ideal) x0 x1 x5 (ix4 0 t h e) = rotq wn x1 x h t e := fun e => by
    rw [r_v20]
    simp only [r_unitv x0 x hx, ← hw]
    rfl
  rw [r_v25]
  simp only [hr]
  rfl

/-- The bonus of the reference. -/
theorem r_bonus (hx : ∀ t k, x (ix2 t k) = x0 (ix3 0 t k)) (t : Fin 2048) (h : Fin 12) :
    val_main_v134 (F := Ideal) x0 x2 x6 x7 (ix3 0 t h) = kbonus x x2 x7 x6 h t := by
  have hs : ∀ r, val_main_v37 (F := Ideal) x0 x2 x7 (ix4 0 t h r) = sgn x7 (unitv x2 x h t) r := fun r => by
    rw [r_v37, r_v18]
    simp only [r_unitv x0 x hx, mul_comm (unitv x2 x h t _)]
    rfl
  rw [r_v134]
  unfold kbonus bonus
  exact Finset.sum_congr rfl fun c _ => by
    rw [r_v60, r_v83, r_v106, r_v129, hs, hs, hs, hs, mul_comm]
    rfl

/-- The masked scores of the reference. -/
theorem r_score (hx : ∀ t k, x (ix2 t k) = x0 (ix3 0 t k)) (hw : ∀ h d e, wn (ix2 (chan h d) e) = x5 (ix3 h d e))
    (hcb : ∀ h c, IsR (x6 (ix2 h c))) (h : Fin 12) (t k : Fin 2048) : val_main_v142 (F := Ideal) x0 x1 x2 x5 x6 x7 (ix4 0 h t k)
    = if k.val ≤ t.val then (((score x x1 x2 wn x7 x6 h t k).toReal : ℝ) : EReal) else ⊥ := by
  rw [r_v142, r_v28, r_v18, r_bonus x0 x2 x6 x7 x hx, ← score_real x x1 x2 wn x7 x6 hcb]
  simp only [r_query x0 x1 x5 x wn hx hw, r_unitv x0 x hx]
  rfl

/-- The shares of the reference. -/
theorem r_share (hx : ∀ t k, x (ix2 t k) = x0 (ix3 0 t k)) (hw : ∀ h d e, wn (ix2 (chan h d) e) = x5 (ix3 h d e))
    (hcb : ∀ h c, IsR (x6 (ix2 h c))) (h : Fin 12) (t k : Fin 2048) : val_main_v153 (F := Ideal) x0 x1 x2 x5 x6 x7 (ix4 0 h t k)
    = share x x1 x2 wn x7 x6 h t k := by
  rw [r_v153, r_v150]
  simp only [r_v149, r_v143, r_score x0 x1 x2 x5 x6 x7 x wn hx hw hcb]
  refine softmax_row (fun k : Fin 2048 => k.val ≤ t.val) (fun k => (score x x1 x2 wn x7 x6 h t k).toReal) _
    (fold_max_isR _ t ?_ fun i => ?_) t (Nat.le_refl _) k
  · rw [if_pos (Nat.le_refl _)]
    exact EReal.coe_ne_bot _
  · split
    · exact EReal.coe_ne_top _
    · exact bot_ne_top

/-- The reference's output is the attention, where the table of bonuses is real. -/
theorem ref_value (hx : ∀ t k, x (ix2 t k) = x0 (ix3 0 t k)) (hw : ∀ h d e, wn (ix2 (chan h d) e) = x5 (ix3 h d e))
    (hcb : ∀ h c, IsR (x6 (ix2 h c))) (t : Fin 2048) (j : Fin 768) :
    val_main_v162 (F := Ideal) x0 x1 x2 x3 x4 x5 x6 x7 (ix3 0 t j) = attention x x1 x2 x3 wn x7 x6 x4 t j := by
  have hv : ∀ (k : Fin 2048) (i : Fin 192), val_main_v8 (F := Ideal) x0 x3 (ix4 0 k (headOf i) ⟨i.val % 16, by omega⟩) = valv x3 x k i :=
    fun k i => by
      rw [r_v8]
      refine Finset.sum_congr rfl fun l _ => ?_
      rw [hx, mul_comm, show row16 (headOf i) ⟨i.val % 16, by omega⟩ = i from Fin.ext (by show 16 * (i.val / 16) + i.val % 16 = i.val; omega)]
  rw [r_v162]
  simp only [hv, r_share x0 x1 x2 x5 x6 x7 x wn hx hw hcb]
  rfl

end

end Attn

end
-- ==== Proof.Precondition.lean ====
/- The precondition in plain terms: where it holds, every entry of the table of bonuses is a real number. -/
module

public import proofs.«01_k».proof.Proof.Scalars
public import proofs.«01_k».proof.Proof.Gen.Pre_finite_bonus

@[expose] public section

noncomputable section

namespace Attn

open Idealize.ShloMosaic Cert.Pre_finite_bonus

theorem pinf_f32 : Ideal.ofBits .f32 0x7F800000#32 = ⊤ := by
  simp [Ideal.ofBits, Ideal.ieee]

/-- An extended real whose absolute value is below infinity is real. -/
theorem isR_of_abs_lt_top (x : EReal) (h : max x (-x) < ⊤) : IsR x := by
  refine IsR.of_ne ?_ ?_
  · rintro rfl
    exact absurd (le_max_left _ _) (not_le.mpr h)
  · rintro rfl
    exact absurd (le_max_right (⊥ : EReal) (-⊥)) (not_le.mpr (h.trans_le (by rw [EReal.neg_bot])))

/-- The precondition says that the bonuses are real. -/
theorem bonus_real (x0 : FVec Ideal S1x2048x768 .f32) (x1 x2 : FVec Ideal S48x768 .f32) (x3 : FVec Ideal S192x768 .f32)
    (x4 : FVec Ideal S768x192 .f32) (x5 : FVec Ideal S12x4x4 .f32) (x6 : FVec Ideal S12x16 .f32) (x7 : FVec Ideal S4x4 .f32)
    (h : fn (F := Ideal) x0 x1 x2 x3 x4 x5 x6 x7 = fun _ => 1#1) (i : S12x16.Idx) : IsR (x6 i) := by
  have e : Ideal.cmp .olt (max (x6 i) (-(x6 i))) (Ideal.ofBits .f32 0x7F800000#32) = 1#1 := congrFun h i
  rw [pinf_f32] at e
  refine isR_of_abs_lt_top _ ?_
  by_contra hn
  have e' : BitVec.ofBool (decide (max (x6 i) (-(x6 i)) < ⊤)) = 1#1 := e
  rw [decide_eq_false hn] at e'
  exact absurd e' (by decide)

end Attn

end
-- ==== Proof.lean ====
module

public import proofs.«01_k».proof.Defs
public import proofs.«01_k».proof.Proof.KernelFrame
public import proofs.«01_k».proof.Proof.IdealFrame
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame.Runs
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame.Runs
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite_bonus
public import proofs.«01_k».proof.Proof.IdealValue
public import proofs.«01_k».proof.Proof.RefValue
public import proofs.«01_k».proof.Proof.Precondition
public import Idealize.ShloMosaic.Adequacy
public import Idealize.ShloMosaic.Init

@[expose] public section

noncomputable section

namespace Cert.Proof

open Idealize.ShloMosaic Idealize.SL.Sem

/-- The reference terminates, keeps its arguments, and declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The three named constants: the idealised kernel reads each at its exact value. -/
theorem preserves : Cert.preserves_Kernel_KernelIdeal :=
  ⟨IdealRules.named_const.statement Cert.KernelIdeal.κ "scale_log2e" .f32 _ _ rfl,
   IdealRules.named_const.statement Cert.KernelIdeal.κ "log2e" .f32 _ _ rfl,
   IdealRules.named_const.statement Cert.KernelIdeal.κ "mask" .bf16 _ _ rfl⟩

/-- The reference's output over the arguments is what the kernel leaves, where the table of bonuses is real: both are the
    attention of the arguments. -/
theorem outputs_meet (m : (ℓ : Loc Cert.KernelIdeal.nD Cert.KernelIdeal.τ Cert.KernelIdeal.sig) → Buf (Elt Ideal) ℓ)
    (c : Dev Cert.KernelIdeal.nD)
    (hcb : ∀ h k, Attn.IsR ((m ((c.tc : Thread Cert.KernelIdeal.nD Cert.KernelIdeal.τ).loc Cert.KernelIdeal.main_arg6)
      : FVec Ideal Cert.KernelIdeal.S12x16 .f32) (ix2 h k))) :
    Cert.ReferenceIdeal.Read.val_main_v162 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))
        (m ((c.tc : Thread Cert.KernelIdeal.nD Cert.KernelIdeal.τ).loc Cert.KernelIdeal.main_arg7))
      = Cert.KernelIdeal.Launch.outsAt0 (F := Ideal) m c ⟨0, by decide⟩ := by
  funext i
  obtain ⟨t, j, rfl⟩ : ∃ (t : Fin 2048) (j : Fin 768), i = ix3 0 t j :=
    ⟨i 1, i 2, (eq_ix3 i).trans (congrArg (fun a => ix3 a (i 1) (i 2)) (Subsingleton.elim (α := Fin 1) (i 0) 0))⟩
  exact (Attn.ref_value _ _ _ _ _ _ _ _ _ _ (Attn.rows_read _) (Attn.rotation_read _) hcb t j).trans
    (Attn.kernel_value m c hcb t j).symm

/-- The kernel's result is the reference's, where the table of bonuses is real. -/
theorem algebraic : Cert.algebraic_KernelIdeal_ReferenceIdeal_pre_finite_bonus := fun m ρ m' ρ' pre same => by
  have hcb := fun c h k => Attn.bonus_real _ _ _ _ _ _ _ _ (pre c) (ix2 h k)
  refine ⟨fun c => Cert.KernelIdeal.Launch.outsAt0 (F := Ideal) m c ⟨0, by decide⟩, Attn.kernel_run m ρ, ?_⟩
  refine (θ_run Cert.ReferenceIdeal.defs _ _).mono (fun r h c => ⟨(h c).1.trans ?_, (h c).2⟩) (Cert.ReferenceIdeal.Value.run (F := Ideal) m' ρ')
  refine (Cert.ReferenceIdeal.Read.val_main_v162_eq (StableHlo.launchContents m' c)).trans ((Eq.trans ?_ (outputs_meet m c (hcb c))))
  show Cert.ReferenceIdeal.Read.val_main_v162 (F := Ideal)
        (m' ((c.tc : Thread Cert.ReferenceIdeal.nD Cert.ReferenceIdeal.τ).loc Cert.ReferenceIdeal.main_arg0))
        (m' ((c.tc : Thread Cert.ReferenceIdeal.nD Cert.ReferenceIdeal.τ).loc Cert.ReferenceIdeal.main_arg1))
        (m' ((c.tc : Thread Cert.ReferenceIdeal.nD Cert.ReferenceIdeal.τ).loc Cert.ReferenceIdeal.main_arg2))
        (m' ((c.tc : Thread Cert.ReferenceIdeal.nD Cert.ReferenceIdeal.τ).loc Cert.ReferenceIdeal.main_arg3))
        (m' ((c.tc : Thread Cert.ReferenceIdeal.nD Cert.ReferenceIdeal.τ).loc Cert.ReferenceIdeal.main_arg4))
        (m' ((c.tc : Thread Cert.ReferenceIdeal.nD Cert.ReferenceIdeal.τ).loc Cert.ReferenceIdeal.main_arg5))
        (m' ((c.tc : Thread Cert.ReferenceIdeal.nD Cert.ReferenceIdeal.τ).loc Cert.ReferenceIdeal.main_arg6))
        (m' ((c.tc : Thread Cert.ReferenceIdeal.nD Cert.ReferenceIdeal.τ).loc Cert.ReferenceIdeal.main_arg7)) = _
  obtain ⟨e0, e1, e2, e3, e4, e5, e6, e7⟩ := same c
  rw [e0, e1, e2, e3, e4, e5, e6, e7]

theorem claim : Cert.Claim := ⟨Cert.Kernel.Gen.facts, Cert.KernelIdeal.Gen.facts, Cert.ReferenceIdeal.Gen.facts, Cert.Pre_finite_bonus.Gen.facts,
  fun m ρ _ => Cert.Kernel.Launch.frame m ρ,
  fun m ρ _ => Cert.KernelIdeal.Launch.frame m ρ,
  fun m ρ _ => Cert.KernelIdeal.Launch.frame m ρ,
  frame_reference,
  fun m ρ _ => frame_reference m ρ trivial,
  preserves, algebraic⟩

end Cert.Proof

end
